-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x4096 : Shape := ⟨2, ![128, 4096]⟩
abbrev S31 : Shape := ⟨1, ![31]⟩
abbrev S_ : Shape := ⟨0, ![]⟩
abbrev S128x128 : Shape := ⟨2, ![128, 128]⟩
abbrev S1 : Shape := ⟨1, ![1]⟩
abbrev S128x8192 : Shape := ⟨2, ![128, 8192]⟩
abbrev S4096x512 : Shape := ⟨2, ![4096, 512]⟩
abbrev S128x512 : Shape := ⟨2, ![128, 512]⟩
abbrev S32x8x128 : Shape := ⟨3, ![32, 8, 128]⟩
abbrev S1x128x8192 : Shape := ⟨3, ![1, 128, 8192]⟩
abbrev S1x1x1 : Shape := ⟨3, ![1, 1, 1]⟩
abbrev S8x128 : Shape := ⟨2, ![8, 128]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x4096, .f32⟩
  | .hbm, ⟨3, _⟩ => ⟨S128x8192, .f32⟩
  | .hbm, ⟨4, _⟩ => ⟨S128x8192, .f32⟩
  | .local _ .vmem, ⟨0, _⟩ => ⟨S4096x128, .f32⟩
  | .local _ .vmem, ⟨1, _⟩ => ⟨S128x4096, .f32⟩
  | .local _ .vmem, ⟨2, _⟩ => ⟨S128x4096, .f32⟩
  | .local _ .vmem, ⟨3, _⟩ => ⟨S4096x512, .f32⟩
  | .local _ .vmem, ⟨4, _⟩ => ⟨S4096x512, .f32⟩
  | .local _ .vmem, ⟨5, _⟩ => ⟨S128x512, .f32⟩
  | .local _ .vmem, ⟨6, _⟩ => ⟨S128x512, .f32⟩
  | .local _ .vmem, ⟨7, _⟩ => ⟨S128x8192, .f32⟩
  | .local _ .vmem, ⟨8, _⟩ => ⟨S128x8192, .f32⟩
  | .local _ .vmem, ⟨9, _⟩ => ⟨S32x8x128, .f32⟩
  | _, _ => ⟨S4096x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => false
  | _ => false

abbrev dmaSemScoped : Fin 133 → Bool
  | ⟨i, _⟩ => dmaSemScopedAt i

abbrev sig : RefSig :=
  (ofTc nBuf bufTy 2 133 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_scratch0 : Ref sig .tc := ⟨.vmem, 9, rfl⟩
abbrev cc0_sem0_0 : DmaSem sig := 0
abbrev cc0_sem1_0 : DmaSem sig := 1
abbrev cc1_sem0_0 : DmaSem sig := 64
abbrev cc1_sem1_0 : DmaSem sig := 65
abbrev cc1_sem1_1 : DmaSem sig := 66
abbrev cc1_sem2_0 : DmaSem sig := 67
abbrev cc1_sem2_1 : DmaSem sig := 68
abbrev cc2_sem0_0 : DmaSem sig := 69
abbrev cc2_sem1_0 : DmaSem sig := 70
abbrev barrier0 : Sem sig := 0
abbrev barrier1 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v128 : BitVec 32 := Scalar.muli v2 c128_i32
  let v129 : Index := Scalar.indexCast v128
  let c0 : Index := 0#32
  ![v129.toNat, 0]
def k0_off2 (d0 : Dev nD) : Fin 2 → Nat :=
  let c0_126 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_125 : BitVec 32 := 128#32
  let v132 : BitVec 32 := Scalar.muli v2 c128_i32_125
  let v133 : Index := Scalar.indexCast v132
  ![0, v133.toNat]
def k0_off3 (d0 : Dev nD) : Fin 2 → Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_130 : BitVec 32 := 128#32
  let v138 : BitVec 32 := Scalar.muli v2 c128_i32_130
  ![0, v138.toNat]
def k0_off4 (d0 : Dev nD) (c1_i32_127 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v135 : BitVec 32 := Scalar.addi v2 c1_i32_127
  let c32_i32_128 : BitVec 32 := 32#32
  let v136 : BitVec 32 := Scalar.remsi v135 c32_i32_128
  let c128_i32_129 : BitVec 32 := 128#32
  let v137 : BitVec 32 := Scalar.muli v136 c128_i32_129
  let c0_i32_136 : BitVec 32 := 0#32
  ![v137.toNat, 0]
def k0_dev32 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v135 : BitVec 32 := Scalar.addi v2 c1_i32_127
  let c32_i32_128 : BitVec 32 := 32#32
  let v136 : BitVec 32 := Scalar.remsi v135 c32_i32_128
  let c1_i32_133 : BitVec 32 := 1#32
  let v139 : BitVec 32 := Scalar.muli v136 c1_i32_133
  let v140 : BitVec 32 := Scalar.addi c0_i32_134 v139
  v140.toNat
def k0_dev33 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_137 : BitVec 32 := 2#32
  let v147 : BitVec 32 := Scalar.addi v2 c2_i32_137
  let c32_i32_138 : BitVec 32 := 32#32
  let v148 : BitVec 32 := Scalar.remsi v147 c32_i32_138
  let c1_i32_143 : BitVec 32 := 1#32
  let v151 : BitVec 32 := Scalar.muli v148 c1_i32_143
  let v152 : BitVec 32 := Scalar.addi c0_i32_144 v151
  v152.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_147 : BitVec 32 := 3#32
  let v159 : BitVec 32 := Scalar.addi v2 c3_i32_147
  let c32_i32_148 : BitVec 32 := 32#32
  let v160 : BitVec 32 := Scalar.remsi v159 c32_i32_148
  let c1_i32_153 : BitVec 32 := 1#32
  let v163 : BitVec 32 := Scalar.muli v160 c1_i32_153
  let v164 : BitVec 32 := Scalar.addi c0_i32_154 v163
  v164.toNat
def k0_dev35 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_157 : BitVec 32 := 4#32
  let v171 : BitVec 32 := Scalar.addi v2 c4_i32_157
  let c32_i32_158 : BitVec 32 := 32#32
  let v172 : BitVec 32 := Scalar.remsi v171 c32_i32_158
  let c1_i32_163 : BitVec 32 := 1#32
  let v175 : BitVec 32 := Scalar.muli v172 c1_i32_163
  let v176 : BitVec 32 := Scalar.addi c0_i32_164 v175
  v176.toNat
def k0_dev36 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_167 : BitVec 32 := 5#32
  let v183 : BitVec 32 := Scalar.addi v2 c5_i32_167
  let c32_i32_168 : BitVec 32 := 32#32
  let v184 : BitVec 32 := Scalar.remsi v183 c32_i32_168
  let c1_i32_173 : BitVec 32 := 1#32
  let v187 : BitVec 32 := Scalar.muli v184 c1_i32_173
  let v188 : BitVec 32 := Scalar.addi c0_i32_174 v187
  v188.toNat
def k0_dev37 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_177 : BitVec 32 := 6#32
  let v195 : BitVec 32 := Scalar.addi v2 c6_i32_177
  let c32_i32_178 : BitVec 32 := 32#32
  let v196 : BitVec 32 := Scalar.remsi v195 c32_i32_178
  let c1_i32_183 : BitVec 32 := 1#32
  let v199 : BitVec 32 := Scalar.muli v196 c1_i32_183
  let v200 : BitVec 32 := Scalar.addi c0_i32_184 v199
  v200.toNat
def k0_dev38 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_187 : BitVec 32 := 7#32
  let v207 : BitVec 32 := Scalar.addi v2 c7_i32_187
  let c32_i32_188 : BitVec 32 := 32#32
  let v208 : BitVec 32 := Scalar.remsi v207 c32_i32_188
  let c1_i32_193 : BitVec 32 := 1#32
  let v211 : BitVec 32 := Scalar.muli v208 c1_i32_193
  let v212 : BitVec 32 := Scalar.addi c0_i32_194 v211
  v212.toNat
def k0_dev39 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_197 : BitVec 32 := 8#32
  let v219 : BitVec 32 := Scalar.addi v2 c8_i32_197
  let c32_i32_198 : BitVec 32 := 32#32
  let v220 : BitVec 32 := Scalar.remsi v219 c32_i32_198
  let c1_i32_203 : BitVec 32 := 1#32
  let v223 : BitVec 32 := Scalar.muli v220 c1_i32_203
  let v224 : BitVec 32 := Scalar.addi c0_i32_204 v223
  v224.toNat
def k0_dev40 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_207 : BitVec 32 := 9#32
  let v231 : BitVec 32 := Scalar.addi v2 c9_i32_207
  let c32_i32_208 : BitVec 32 := 32#32
  let v232 : BitVec 32 := Scalar.remsi v231 c32_i32_208
  let c1_i32_213 : BitVec 32 := 1#32
  let v235 : BitVec 32 := Scalar.muli v232 c1_i32_213
  let v236 : BitVec 32 := Scalar.addi c0_i32_214 v235
  v236.toNat
def k0_dev41 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_217 : BitVec 32 := 10#32
  let v243 : BitVec 32 := Scalar.addi v2 c10_i32_217
  let c32_i32_218 : BitVec 32 := 32#32
  let v244 : BitVec 32 := Scalar.remsi v243 c32_i32_218
  let c1_i32_223 : BitVec 32 := 1#32
  let v247 : BitVec 32 := Scalar.muli v244 c1_i32_223
  let v248 : BitVec 32 := Scalar.addi c0_i32_224 v247
  v248.toNat
def k0_dev42 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_227 : BitVec 32 := 11#32
  let v255 : BitVec 32 := Scalar.addi v2 c11_i32_227
  let c32_i32_228 : BitVec 32 := 32#32
  let v256 : BitVec 32 := Scalar.remsi v255 c32_i32_228
  let c1_i32_233 : BitVec 32 := 1#32
  let v259 : BitVec 32 := Scalar.muli v256 c1_i32_233
  let v260 : BitVec 32 := Scalar.addi c0_i32_234 v259
  v260.toNat
def k0_dev43 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_237 : BitVec 32 := 12#32
  let v267 : BitVec 32 := Scalar.addi v2 c12_i32_237
  let c32_i32_238 : BitVec 32 := 32#32
  let v268 : BitVec 32 := Scalar.remsi v267 c32_i32_238
  let c1_i32_243 : BitVec 32 := 1#32
  let v271 : BitVec 32 := Scalar.muli v268 c1_i32_243
  let v272 : BitVec 32 := Scalar.addi c0_i32_244 v271
  v272.toNat
def k0_dev44 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_247 : BitVec 32 := 13#32
  let v279 : BitVec 32 := Scalar.addi v2 c13_i32_247
  let c32_i32_248 : BitVec 32 := 32#32
  let v280 : BitVec 32 := Scalar.remsi v279 c32_i32_248
  let c1_i32_253 : BitVec 32 := 1#32
  let v283 : BitVec 32 := Scalar.muli v280 c1_i32_253
  let v284 : BitVec 32 := Scalar.addi c0_i32_254 v283
  v284.toNat
def k0_dev45 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_257 : BitVec 32 := 14#32
  let v291 : BitVec 32 := Scalar.addi v2 c14_i32_257
  let c32_i32_258 : BitVec 32 := 32#32
  let v292 : BitVec 32 := Scalar.remsi v291 c32_i32_258
  let c1_i32_263 : BitVec 32 := 1#32
  let v295 : BitVec 32 := Scalar.muli v292 c1_i32_263
  let v296 : BitVec 32 := Scalar.addi c0_i32_264 v295
  v296.toNat
def k0_dev46 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_267 : BitVec 32 := 15#32
  let v303 : BitVec 32 := Scalar.addi v2 c15_i32_267
  let c32_i32_268 : BitVec 32 := 32#32
  let v304 : BitVec 32 := Scalar.remsi v303 c32_i32_268
  let c1_i32_273 : BitVec 32 := 1#32
  let v307 : BitVec 32 := Scalar.muli v304 c1_i32_273
  let v308 : BitVec 32 := Scalar.addi c0_i32_274 v307
  v308.toNat
def k0_dev47 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_277 : BitVec 32 := 16#32
  let v315 : BitVec 32 := Scalar.addi v2 c16_i32_277
  let c32_i32_278 : BitVec 32 := 32#32
  let v316 : BitVec 32 := Scalar.remsi v315 c32_i32_278
  let c1_i32_283 : BitVec 32 := 1#32
  let v319 : BitVec 32 := Scalar.muli v316 c1_i32_283
  let v320 : BitVec 32 := Scalar.addi c0_i32_284 v319
  v320.toNat
def k0_dev48 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_287 : BitVec 32 := 17#32
  let v327 : BitVec 32 := Scalar.addi v2 c17_i32_287
  let c32_i32_288 : BitVec 32 := 32#32
  let v328 : BitVec 32 := Scalar.remsi v327 c32_i32_288
  let c1_i32_293 : BitVec 32 := 1#32
  let v331 : BitVec 32 := Scalar.muli v328 c1_i32_293
  let v332 : BitVec 32 := Scalar.addi c0_i32_294 v331
  v332.toNat
def k0_dev49 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_297 : BitVec 32 := 18#32
  let v339 : BitVec 32 := Scalar.addi v2 c18_i32_297
  let c32_i32_298 : BitVec 32 := 32#32
  let v340 : BitVec 32 := Scalar.remsi v339 c32_i32_298
  let c1_i32_303 : BitVec 32 := 1#32
  let v343 : BitVec 32 := Scalar.muli v340 c1_i32_303
  let v344 : BitVec 32 := Scalar.addi c0_i32_304 v343
  v344.toNat
def k0_dev50 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_307 : BitVec 32 := 19#32
  let v351 : BitVec 32 := Scalar.addi v2 c19_i32_307
  let c32_i32_308 : BitVec 32 := 32#32
  let v352 : BitVec 32 := Scalar.remsi v351 c32_i32_308
  let c1_i32_313 : BitVec 32 := 1#32
  let v355 : BitVec 32 := Scalar.muli v352 c1_i32_313
  let v356 : BitVec 32 := Scalar.addi c0_i32_314 v355
  v356.toNat
def k0_dev51 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v363 : BitVec 32 := Scalar.addi v2 c20_i32_317
  let c32_i32_318 : BitVec 32 := 32#32
  let v364 : BitVec 32 := Scalar.remsi v363 c32_i32_318
  let c1_i32_323 : BitVec 32 := 1#32
  let v367 : BitVec 32 := Scalar.muli v364 c1_i32_323
  let v368 : BitVec 32 := Scalar.addi c0_i32_324 v367
  v368.toNat
def k0_dev52 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_327 : BitVec 32 := 21#32
  let v375 : BitVec 32 := Scalar.addi v2 c21_i32_327
  let c32_i32_328 : BitVec 32 := 32#32
  let v376 : BitVec 32 := Scalar.remsi v375 c32_i32_328
  let c1_i32_333 : BitVec 32 := 1#32
  let v379 : BitVec 32 := Scalar.muli v376 c1_i32_333
  let v380 : BitVec 32 := Scalar.addi c0_i32_334 v379
  v380.toNat
def k0_dev53 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_337 : BitVec 32 := 22#32
  let v387 : BitVec 32 := Scalar.addi v2 c22_i32_337
  let c32_i32_338 : BitVec 32 := 32#32
  let v388 : BitVec 32 := Scalar.remsi v387 c32_i32_338
  let c1_i32_343 : BitVec 32 := 1#32
  let v391 : BitVec 32 := Scalar.muli v388 c1_i32_343
  let v392 : BitVec 32 := Scalar.addi c0_i32_344 v391
  v392.toNat
def k0_dev54 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_347 : BitVec 32 := 23#32
  let v399 : BitVec 32 := Scalar.addi v2 c23_i32_347
  let c32_i32_348 : BitVec 32 := 32#32
  let v400 : BitVec 32 := Scalar.remsi v399 c32_i32_348
  let c1_i32_353 : BitVec 32 := 1#32
  let v403 : BitVec 32 := Scalar.muli v400 c1_i32_353
  let v404 : BitVec 32 := Scalar.addi c0_i32_354 v403
  v404.toNat
def k0_dev55 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_357 : BitVec 32 := 24#32
  let v411 : BitVec 32 := Scalar.addi v2 c24_i32_357
  let c32_i32_358 : BitVec 32 := 32#32
  let v412 : BitVec 32 := Scalar.remsi v411 c32_i32_358
  let c1_i32_363 : BitVec 32 := 1#32
  let v415 : BitVec 32 := Scalar.muli v412 c1_i32_363
  let v416 : BitVec 32 := Scalar.addi c0_i32_364 v415
  v416.toNat
def k0_dev56 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_367 : BitVec 32 := 25#32
  let v423 : BitVec 32 := Scalar.addi v2 c25_i32_367
  let c32_i32_368 : BitVec 32 := 32#32
  let v424 : BitVec 32 := Scalar.remsi v423 c32_i32_368
  let c1_i32_373 : BitVec 32 := 1#32
  let v427 : BitVec 32 := Scalar.muli v424 c1_i32_373
  let v428 : BitVec 32 := Scalar.addi c0_i32_374 v427
  v428.toNat
def k0_dev57 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_377 : BitVec 32 := 26#32
  let v435 : BitVec 32 := Scalar.addi v2 c26_i32_377
  let c32_i32_378 : BitVec 32 := 32#32
  let v436 : BitVec 32 := Scalar.remsi v435 c32_i32_378
  let c1_i32_383 : BitVec 32 := 1#32
  let v439 : BitVec 32 := Scalar.muli v436 c1_i32_383
  let v440 : BitVec 32 := Scalar.addi c0_i32_384 v439
  v440.toNat
def k0_dev58 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_387 : BitVec 32 := 27#32
  let v447 : BitVec 32 := Scalar.addi v2 c27_i32_387
  let c32_i32_388 : BitVec 32 := 32#32
  let v448 : BitVec 32 := Scalar.remsi v447 c32_i32_388
  let c1_i32_393 : BitVec 32 := 1#32
  let v451 : BitVec 32 := Scalar.muli v448 c1_i32_393
  let v452 : BitVec 32 := Scalar.addi c0_i32_394 v451
  v452.toNat
def k0_dev59 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_397 : BitVec 32 := 28#32
  let v459 : BitVec 32 := Scalar.addi v2 c28_i32_397
  let c32_i32_398 : BitVec 32 := 32#32
  let v460 : BitVec 32 := Scalar.remsi v459 c32_i32_398
  let c1_i32_403 : BitVec 32 := 1#32
  let v463 : BitVec 32 := Scalar.muli v460 c1_i32_403
  let v464 : BitVec 32 := Scalar.addi c0_i32_404 v463
  v464.toNat
def k0_dev60 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_407 : BitVec 32 := 29#32
  let v471 : BitVec 32 := Scalar.addi v2 c29_i32_407
  let c32_i32_408 : BitVec 32 := 32#32
  let v472 : BitVec 32 := Scalar.remsi v471 c32_i32_408
  let c1_i32_413 : BitVec 32 := 1#32
  let v475 : BitVec 32 := Scalar.muli v472 c1_i32_413
  let v476 : BitVec 32 := Scalar.addi c0_i32_414 v475
  v476.toNat
def k0_dev61 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_417 : BitVec 32 := 30#32
  let v483 : BitVec 32 := Scalar.addi v2 c30_i32_417
  let c32_i32_418 : BitVec 32 := 32#32
  let v484 : BitVec 32 := Scalar.remsi v483 c32_i32_418
  let c1_i32_423 : BitVec 32 := 1#32
  let v487 : BitVec 32 := Scalar.muli v484 c1_i32_423
  let v488 : BitVec 32 := Scalar.addi c0_i32_424 v487
  v488.toNat
def k0_dev62 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_427 : BitVec 32 := 31#32
  let v495 : BitVec 32 := Scalar.addi v2 c31_i32_427
  let c32_i32_428 : BitVec 32 := 32#32
  let v496 : BitVec 32 := Scalar.remsi v495 c32_i32_428
  let c1_i32_433 : BitVec 32 := 1#32
  let v499 : BitVec 32 := Scalar.muli v496 c1_i32_433
  let v500 : BitVec 32 := Scalar.addi c0_i32_434 v499
  v500.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

def k2_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_4 : BitVec 32 := 1#32
  let v14 : BitVec 32 := Scalar.addi v2 c1_i32_4
  let c32_i32_5 : BitVec 32 := 32#32
  let v15 : BitVec 32 := Scalar.remsi v14 c32_i32_5
  let c1_i32_7 : BitVec 32 := 1#32
  let v16 : BitVec 32 := Scalar.muli v15 c1_i32_7
  let v17 : BitVec 32 := Scalar.addi c0_i32 v16
  v17.toNat
def k2_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v18 : BitVec 32 := Scalar.addi v2 c2_i32
  let c32_i32_8 : BitVec 32 := 32#32
  let v19 : BitVec 32 := Scalar.remsi v18 c32_i32_8
  let c1_i32_10 : BitVec 32 := 1#32
  let v20 : BitVec 32 := Scalar.muli v19 c1_i32_10
  let v21 : BitVec 32 := Scalar.addi c0_i32_11 v20
  v21.toNat
def k2_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v22 : BitVec 32 := Scalar.addi v2 c3_i32
  let c32_i32_12 : BitVec 32 := 32#32
  let v23 : BitVec 32 := Scalar.remsi v22 c32_i32_12
  let c1_i32_14 : BitVec 32 := 1#32
  let v24 : BitVec 32 := Scalar.muli v23 c1_i32_14
  let v25 : BitVec 32 := Scalar.addi c0_i32_15 v24
  v25.toNat
def k2_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v26 : BitVec 32 := Scalar.addi v2 c4_i32
  let c32_i32_16 : BitVec 32 := 32#32
  let v27 : BitVec 32 := Scalar.remsi v26 c32_i32_16
  let c1_i32_18 : BitVec 32 := 1#32
  let v28 : BitVec 32 := Scalar.muli v27 c1_i32_18
  let v29 : BitVec 32 := Scalar.addi c0_i32_19 v28
  v29.toNat
def k2_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v30 : BitVec 32 := Scalar.addi v2 c5_i32
  let c32_i32_20 : BitVec 32 := 32#32
  let v31 : BitVec 32 := Scalar.remsi v30 c32_i32_20
  let c1_i32_22 : BitVec 32 := 1#32
  let v32 : BitVec 32 := Scalar.muli v31 c1_i32_22
  let v33 : BitVec 32 := Scalar.addi c0_i32_23 v32
  v33.toNat
def k2_dev6 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v34 : BitVec 32 := Scalar.addi v2 c6_i32
  let c32_i32_24 : BitVec 32 := 32#32
  let v35 : BitVec 32 := Scalar.remsi v34 c32_i32_24
  let c1_i32_26 : BitVec 32 := 1#32
  let v36 : BitVec 32 := Scalar.muli v35 c1_i32_26
  let v37 : BitVec 32 := Scalar.addi c0_i32_27 v36
  v37.toNat
def k2_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v38 : BitVec 32 := Scalar.addi v2 c7_i32
  let c32_i32_28 : BitVec 32 := 32#32
  let v39 : BitVec 32 := Scalar.remsi v38 c32_i32_28
  let c1_i32_30 : BitVec 32 := 1#32
  let v40 : BitVec 32 := Scalar.muli v39 c1_i32_30
  let v41 : BitVec 32 := Scalar.addi c0_i32_31 v40
  v41.toNat
def k2_dev8 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v42 : BitVec 32 := Scalar.addi v2 c8_i32
  let c32_i32_32 : BitVec 32 := 32#32
  let v43 : BitVec 32 := Scalar.remsi v42 c32_i32_32
  let c1_i32_34 : BitVec 32 := 1#32
  let v44 : BitVec 32 := Scalar.muli v43 c1_i32_34
  let v45 : BitVec 32 := Scalar.addi c0_i32_35 v44
  v45.toNat
def k2_dev9 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v46 : BitVec 32 := Scalar.addi v2 c9_i32
  let c32_i32_36 : BitVec 32 := 32#32
  let v47 : BitVec 32 := Scalar.remsi v46 c32_i32_36
  let c1_i32_38 : BitVec 32 := 1#32
  let v48 : BitVec 32 := Scalar.muli v47 c1_i32_38
  let v49 : BitVec 32 := Scalar.addi c0_i32_39 v48
  v49.toNat
def k2_dev10 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v50 : BitVec 32 := Scalar.addi v2 c10_i32
  let c32_i32_40 : BitVec 32 := 32#32
  let v51 : BitVec 32 := Scalar.remsi v50 c32_i32_40
  let c1_i32_42 : BitVec 32 := 1#32
  let v52 : BitVec 32 := Scalar.muli v51 c1_i32_42
  let v53 : BitVec 32 := Scalar.addi c0_i32_43 v52
  v53.toNat
def k2_dev11 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v54 : BitVec 32 := Scalar.addi v2 c11_i32
  let c32_i32_44 : BitVec 32 := 32#32
  let v55 : BitVec 32 := Scalar.remsi v54 c32_i32_44
  let c1_i32_46 : BitVec 32 := 1#32
  let v56 : BitVec 32 := Scalar.muli v55 c1_i32_46
  let v57 : BitVec 32 := Scalar.addi c0_i32_47 v56
  v57.toNat
def k2_dev12 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v58 : BitVec 32 := Scalar.addi v2 c12_i32
  let c32_i32_48 : BitVec 32 := 32#32
  let v59 : BitVec 32 := Scalar.remsi v58 c32_i32_48
  let c1_i32_50 : BitVec 32 := 1#32
  let v60 : BitVec 32 := Scalar.muli v59 c1_i32_50
  let v61 : BitVec 32 := Scalar.addi c0_i32_51 v60
  v61.toNat
def k2_dev13 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v62 : BitVec 32 := Scalar.addi v2 c13_i32
  let c32_i32_52 : BitVec 32 := 32#32
  let v63 : BitVec 32 := Scalar.remsi v62 c32_i32_52
  let c1_i32_54 : BitVec 32 := 1#32
  let v64 : BitVec 32 := Scalar.muli v63 c1_i32_54
  let v65 : BitVec 32 := Scalar.addi c0_i32_55 v64
  v65.toNat
def k2_dev14 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v66 : BitVec 32 := Scalar.addi v2 c14_i32
  let c32_i32_56 : BitVec 32 := 32#32
  let v67 : BitVec 32 := Scalar.remsi v66 c32_i32_56
  let c1_i32_58 : BitVec 32 := 1#32
  let v68 : BitVec 32 := Scalar.muli v67 c1_i32_58
  let v69 : BitVec 32 := Scalar.addi c0_i32_59 v68
  v69.toNat
def k2_dev15 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v70 : BitVec 32 := Scalar.addi v2 c15_i32
  let c32_i32_60 : BitVec 32 := 32#32
  let v71 : BitVec 32 := Scalar.remsi v70 c32_i32_60
  let c1_i32_62 : BitVec 32 := 1#32
  let v72 : BitVec 32 := Scalar.muli v71 c1_i32_62
  let v73 : BitVec 32 := Scalar.addi c0_i32_63 v72
  v73.toNat
def k2_dev16 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v74 : BitVec 32 := Scalar.addi v2 c16_i32
  let c32_i32_64 : BitVec 32 := 32#32
  let v75 : BitVec 32 := Scalar.remsi v74 c32_i32_64
  let c1_i32_66 : BitVec 32 := 1#32
  let v76 : BitVec 32 := Scalar.muli v75 c1_i32_66
  let v77 : BitVec 32 := Scalar.addi c0_i32_67 v76
  v77.toNat
def k2_dev17 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v78 : BitVec 32 := Scalar.addi v2 c17_i32
  let c32_i32_68 : BitVec 32 := 32#32
  let v79 : BitVec 32 := Scalar.remsi v78 c32_i32_68
  let c1_i32_70 : BitVec 32 := 1#32
  let v80 : BitVec 32 := Scalar.muli v79 c1_i32_70
  let v81 : BitVec 32 := Scalar.addi c0_i32_71 v80
  v81.toNat
def k2_dev18 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v82 : BitVec 32 := Scalar.addi v2 c18_i32
  let c32_i32_72 : BitVec 32 := 32#32
  let v83 : BitVec 32 := Scalar.remsi v82 c32_i32_72
  let c1_i32_74 : BitVec 32 := 1#32
  let v84 : BitVec 32 := Scalar.muli v83 c1_i32_74
  let v85 : BitVec 32 := Scalar.addi c0_i32_75 v84
  v85.toNat
def k2_dev19 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v86 : BitVec 32 := Scalar.addi v2 c19_i32
  let c32_i32_76 : BitVec 32 := 32#32
  let v87 : BitVec 32 := Scalar.remsi v86 c32_i32_76
  let c1_i32_78 : BitVec 32 := 1#32
  let v88 : BitVec 32 := Scalar.muli v87 c1_i32_78
  let v89 : BitVec 32 := Scalar.addi c0_i32_79 v88
  v89.toNat
def k2_dev20 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v90 : BitVec 32 := Scalar.addi v2 c20_i32
  let c32_i32_80 : BitVec 32 := 32#32
  let v91 : BitVec 32 := Scalar.remsi v90 c32_i32_80
  let c1_i32_82 : BitVec 32 := 1#32
  let v92 : BitVec 32 := Scalar.muli v91 c1_i32_82
  let v93 : BitVec 32 := Scalar.addi c0_i32_83 v92
  v93.toNat
def k2_dev21 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v94 : BitVec 32 := Scalar.addi v2 c21_i32
  let c32_i32_84 : BitVec 32 := 32#32
  let v95 : BitVec 32 := Scalar.remsi v94 c32_i32_84
  let c1_i32_86 : BitVec 32 := 1#32
  let v96 : BitVec 32 := Scalar.muli v95 c1_i32_86
  let v97 : BitVec 32 := Scalar.addi c0_i32_87 v96
  v97.toNat
def k2_dev22 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v98 : BitVec 32 := Scalar.addi v2 c22_i32
  let c32_i32_88 : BitVec 32 := 32#32
  let v99 : BitVec 32 := Scalar.remsi v98 c32_i32_88
  let c1_i32_90 : BitVec 32 := 1#32
  let v100 : BitVec 32 := Scalar.muli v99 c1_i32_90
  let v101 : BitVec 32 := Scalar.addi c0_i32_91 v100
  v101.toNat
def k2_dev23 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v102 : BitVec 32 := Scalar.addi v2 c23_i32
  let c32_i32_92 : BitVec 32 := 32#32
  let v103 : BitVec 32 := Scalar.remsi v102 c32_i32_92
  let c1_i32_94 : BitVec 32 := 1#32
  let v104 : BitVec 32 := Scalar.muli v103 c1_i32_94
  let v105 : BitVec 32 := Scalar.addi c0_i32_95 v104
  v105.toNat
def k2_dev24 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v106 : BitVec 32 := Scalar.addi v2 c24_i32
  let c32_i32_96 : BitVec 32 := 32#32
  let v107 : BitVec 32 := Scalar.remsi v106 c32_i32_96
  let c1_i32_98 : BitVec 32 := 1#32
  let v108 : BitVec 32 := Scalar.muli v107 c1_i32_98
  let v109 : BitVec 32 := Scalar.addi c0_i32_99 v108
  v109.toNat
def k2_dev25 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v110 : BitVec 32 := Scalar.addi v2 c25_i32
  let c32_i32_100 : BitVec 32 := 32#32
  let v111 : BitVec 32 := Scalar.remsi v110 c32_i32_100
  let c1_i32_102 : BitVec 32 := 1#32
  let v112 : BitVec 32 := Scalar.muli v111 c1_i32_102
  let v113 : BitVec 32 := Scalar.addi c0_i32_103 v112
  v113.toNat
def k2_dev26 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v114 : BitVec 32 := Scalar.addi v2 c26_i32
  let c32_i32_104 : BitVec 32 := 32#32
  let v115 : BitVec 32 := Scalar.remsi v114 c32_i32_104
  let c1_i32_106 : BitVec 32 := 1#32
  let v116 : BitVec 32 := Scalar.muli v115 c1_i32_106
  let v117 : BitVec 32 := Scalar.addi c0_i32_107 v116
  v117.toNat
def k2_dev27 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v118 : BitVec 32 := Scalar.addi v2 c27_i32
  let c32_i32_108 : BitVec 32 := 32#32
  let v119 : BitVec 32 := Scalar.remsi v118 c32_i32_108
  let c1_i32_110 : BitVec 32 := 1#32
  let v120 : BitVec 32 := Scalar.muli v119 c1_i32_110
  let v121 : BitVec 32 := Scalar.addi c0_i32_111 v120
  v121.toNat
def k2_dev28 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v122 : BitVec 32 := Scalar.addi v2 c28_i32
  let c32_i32_112 : BitVec 32 := 32#32
  let v123 : BitVec 32 := Scalar.remsi v122 c32_i32_112
  let c1_i32_114 : BitVec 32 := 1#32
  let v124 : BitVec 32 := Scalar.muli v123 c1_i32_114
  let v125 : BitVec 32 := Scalar.addi c0_i32_115 v124
  v125.toNat
def k2_dev29 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v126 : BitVec 32 := Scalar.addi v2 c29_i32
  let c32_i32_116 : BitVec 32 := 32#32
  let v127 : BitVec 32 := Scalar.remsi v126 c32_i32_116
  let c1_i32_118 : BitVec 32 := 1#32
  let v128 : BitVec 32 := Scalar.muli v127 c1_i32_118
  let v129 : BitVec 32 := Scalar.addi c0_i32_119 v128
  v129.toNat
def k2_dev30 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v130 : BitVec 32 := Scalar.addi v2 c30_i32
  let c32_i32_120 : BitVec 32 := 32#32
  let v131 : BitVec 32 := Scalar.remsi v130 c32_i32_120
  let c1_i32_122 : BitVec 32 := 1#32
  let v132 : BitVec 32 := Scalar.muli v131 c1_i32_122
  let v133 : BitVec 32 := Scalar.addi c0_i32_123 v132
  v133.toNat
def k2_dev31 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v134 : BitVec 32 := Scalar.addi v2 c31_i32
  let c32_i32_124 : BitVec 32 := 32#32
  let v135 : BitVec 32 := Scalar.remsi v134 c32_i32_124
  let c1_i32_126 : BitVec 32 := 1#32
  let v136 : BitVec 32 := Scalar.muli v135 c1_i32_126
  let v137 : BitVec 32 := Scalar.addi c0_i32_127 v136
  v137.toNat
def k2_dev32 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_129 : BitVec 32 := 1#32
  let v138 : BitVec 32 := Scalar.addi v2 c1_i32_129
  let c32_i32_130 : BitVec 32 := 32#32
  let v139 : BitVec 32 := Scalar.remsi v138 c32_i32_130
  let c1_i32_135 : BitVec 32 := 1#32
  let v140 : BitVec 32 := Scalar.muli v139 c1_i32_135
  let v141 : BitVec 32 := Scalar.addi c0_i32_136 v140
  v141.toNat
def k2_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_141 : BitVec 32 := 2#32
  let v150 : BitVec 32 := Scalar.addi v2 c2_i32_141
  let c32_i32_142 : BitVec 32 := 32#32
  let v151 : BitVec 32 := Scalar.remsi v150 c32_i32_142
  let c1_i32_147 : BitVec 32 := 1#32
  let v152 : BitVec 32 := Scalar.muli v151 c1_i32_147
  let v153 : BitVec 32 := Scalar.addi c0_i32_148 v152
  v153.toNat
def k2_dev34 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_153 : BitVec 32 := 3#32
  let v162 : BitVec 32 := Scalar.addi v2 c3_i32_153
  let c32_i32_154 : BitVec 32 := 32#32
  let v163 : BitVec 32 := Scalar.remsi v162 c32_i32_154
  let c1_i32_159 : BitVec 32 := 1#32
  let v164 : BitVec 32 := Scalar.muli v163 c1_i32_159
  let v165 : BitVec 32 := Scalar.addi c0_i32_160 v164
  v165.toNat
def k2_dev35 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_165 : BitVec 32 := 4#32
  let v174 : BitVec 32 := Scalar.addi v2 c4_i32_165
  let c32_i32_166 : BitVec 32 := 32#32
  let v175 : BitVec 32 := Scalar.remsi v174 c32_i32_166
  let c1_i32_171 : BitVec 32 := 1#32
  let v176 : BitVec 32 := Scalar.muli v175 c1_i32_171
  let v177 : BitVec 32 := Scalar.addi c0_i32_172 v176
  v177.toNat
def k2_dev36 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_177 : BitVec 32 := 5#32
  let v186 : BitVec 32 := Scalar.addi v2 c5_i32_177
  let c32_i32_178 : BitVec 32 := 32#32
  let v187 : BitVec 32 := Scalar.remsi v186 c32_i32_178
  let c1_i32_183 : BitVec 32 := 1#32
  let v188 : BitVec 32 := Scalar.muli v187 c1_i32_183
  let v189 : BitVec 32 := Scalar.addi c0_i32_184 v188
  v189.toNat
def k2_dev37 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_189 : BitVec 32 := 6#32
  let v198 : BitVec 32 := Scalar.addi v2 c6_i32_189
  let c32_i32_190 : BitVec 32 := 32#32
  let v199 : BitVec 32 := Scalar.remsi v198 c32_i32_190
  let c1_i32_195 : BitVec 32 := 1#32
  let v200 : BitVec 32 := Scalar.muli v199 c1_i32_195
  let v201 : BitVec 32 := Scalar.addi c0_i32_196 v200
  v201.toNat
def k2_dev38 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_201 : BitVec 32 := 7#32
  let v210 : BitVec 32 := Scalar.addi v2 c7_i32_201
  let c32_i32_202 : BitVec 32 := 32#32
  let v211 : BitVec 32 := Scalar.remsi v210 c32_i32_202
  let c1_i32_207 : BitVec 32 := 1#32
  let v212 : BitVec 32 := Scalar.muli v211 c1_i32_207
  let v213 : BitVec 32 := Scalar.addi c0_i32_208 v212
  v213.toNat
def k2_dev39 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_213 : BitVec 32 := 8#32
  let v222 : BitVec 32 := Scalar.addi v2 c8_i32_213
  let c32_i32_214 : BitVec 32 := 32#32
  let v223 : BitVec 32 := Scalar.remsi v222 c32_i32_214
  let c1_i32_219 : BitVec 32 := 1#32
  let v224 : BitVec 32 := Scalar.muli v223 c1_i32_219
  let v225 : BitVec 32 := Scalar.addi c0_i32_220 v224
  v225.toNat
def k2_dev40 (d0 : Dev nD) : Nat :=
  let c0_i32_232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_225 : BitVec 32 := 9#32
  let v234 : BitVec 32 := Scalar.addi v2 c9_i32_225
  let c32_i32_226 : BitVec 32 := 32#32
  let v235 : BitVec 32 := Scalar.remsi v234 c32_i32_226
  let c1_i32_231 : BitVec 32 := 1#32
  let v236 : BitVec 32 := Scalar.muli v235 c1_i32_231
  let v237 : BitVec 32 := Scalar.addi c0_i32_232 v236
  v237.toNat
def k2_dev41 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_237 : BitVec 32 := 10#32
  let v246 : BitVec 32 := Scalar.addi v2 c10_i32_237
  let c32_i32_238 : BitVec 32 := 32#32
  let v247 : BitVec 32 := Scalar.remsi v246 c32_i32_238
  let c1_i32_243 : BitVec 32 := 1#32
  let v248 : BitVec 32 := Scalar.muli v247 c1_i32_243
  let v249 : BitVec 32 := Scalar.addi c0_i32_244 v248
  v249.toNat
def k2_dev42 (d0 : Dev nD) : Nat :=
  let c0_i32_256 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_249 : BitVec 32 := 11#32
  let v258 : BitVec 32 := Scalar.addi v2 c11_i32_249
  let c32_i32_250 : BitVec 32 := 32#32
  let v259 : BitVec 32 := Scalar.remsi v258 c32_i32_250
  let c1_i32_255 : BitVec 32 := 1#32
  let v260 : BitVec 32 := Scalar.muli v259 c1_i32_255
  let v261 : BitVec 32 := Scalar.addi c0_i32_256 v260
  v261.toNat
def k2_dev43 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_261 : BitVec 32 := 12#32
  let v270 : BitVec 32 := Scalar.addi v2 c12_i32_261
  let c32_i32_262 : BitVec 32 := 32#32
  let v271 : BitVec 32 := Scalar.remsi v270 c32_i32_262
  let c1_i32_267 : BitVec 32 := 1#32
  let v272 : BitVec 32 := Scalar.muli v271 c1_i32_267
  let v273 : BitVec 32 := Scalar.addi c0_i32_268 v272
  v273.toNat
def k2_dev44 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_273 : BitVec 32 := 13#32
  let v282 : BitVec 32 := Scalar.addi v2 c13_i32_273
  let c32_i32_274 : BitVec 32 := 32#32
  let v283 : BitVec 32 := Scalar.remsi v282 c32_i32_274
  let c1_i32_279 : BitVec 32 := 1#32
  let v284 : BitVec 32 := Scalar.muli v283 c1_i32_279
  let v285 : BitVec 32 := Scalar.addi c0_i32_280 v284
  v285.toNat
def k2_dev45 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_285 : BitVec 32 := 14#32
  let v294 : BitVec 32 := Scalar.addi v2 c14_i32_285
  let c32_i32_286 : BitVec 32 := 32#32
  let v295 : BitVec 32 := Scalar.remsi v294 c32_i32_286
  let c1_i32_291 : BitVec 32 := 1#32
  let v296 : BitVec 32 := Scalar.muli v295 c1_i32_291
  let v297 : BitVec 32 := Scalar.addi c0_i32_292 v296
  v297.toNat
def k2_dev46 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_297 : BitVec 32 := 15#32
  let v306 : BitVec 32 := Scalar.addi v2 c15_i32_297
  let c32_i32_298 : BitVec 32 := 32#32
  let v307 : BitVec 32 := Scalar.remsi v306 c32_i32_298
  let c1_i32_303 : BitVec 32 := 1#32
  let v308 : BitVec 32 := Scalar.muli v307 c1_i32_303
  let v309 : BitVec 32 := Scalar.addi c0_i32_304 v308
  v309.toNat
def k2_dev47 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_309 : BitVec 32 := 16#32
  let v318 : BitVec 32 := Scalar.addi v2 c16_i32_309
  let c32_i32_310 : BitVec 32 := 32#32
  let v319 : BitVec 32 := Scalar.remsi v318 c32_i32_310
  let c1_i32_315 : BitVec 32 := 1#32
  let v320 : BitVec 32 := Scalar.muli v319 c1_i32_315
  let v321 : BitVec 32 := Scalar.addi c0_i32_316 v320
  v321.toNat
def k2_dev48 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_321 : BitVec 32 := 17#32
  let v330 : BitVec 32 := Scalar.addi v2 c17_i32_321
  let c32_i32_322 : BitVec 32 := 32#32
  let v331 : BitVec 32 := Scalar.remsi v330 c32_i32_322
  let c1_i32_327 : BitVec 32 := 1#32
  let v332 : BitVec 32 := Scalar.muli v331 c1_i32_327
  let v333 : BitVec 32 := Scalar.addi c0_i32_328 v332
  v333.toNat
def k2_dev49 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_333 : BitVec 32 := 18#32
  let v342 : BitVec 32 := Scalar.addi v2 c18_i32_333
  let c32_i32_334 : BitVec 32 := 32#32
  let v343 : BitVec 32 := Scalar.remsi v342 c32_i32_334
  let c1_i32_339 : BitVec 32 := 1#32
  let v344 : BitVec 32 := Scalar.muli v343 c1_i32_339
  let v345 : BitVec 32 := Scalar.addi c0_i32_340 v344
  v345.toNat
def k2_dev50 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_345 : BitVec 32 := 19#32
  let v354 : BitVec 32 := Scalar.addi v2 c19_i32_345
  let c32_i32_346 : BitVec 32 := 32#32
  let v355 : BitVec 32 := Scalar.remsi v354 c32_i32_346
  let c1_i32_351 : BitVec 32 := 1#32
  let v356 : BitVec 32 := Scalar.muli v355 c1_i32_351
  let v357 : BitVec 32 := Scalar.addi c0_i32_352 v356
  v357.toNat
def k2_dev51 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_357 : BitVec 32 := 20#32
  let v366 : BitVec 32 := Scalar.addi v2 c20_i32_357
  let c32_i32_358 : BitVec 32 := 32#32
  let v367 : BitVec 32 := Scalar.remsi v366 c32_i32_358
  let c1_i32_363 : BitVec 32 := 1#32
  let v368 : BitVec 32 := Scalar.muli v367 c1_i32_363
  let v369 : BitVec 32 := Scalar.addi c0_i32_364 v368
  v369.toNat
def k2_dev52 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_369 : BitVec 32 := 21#32
  let v378 : BitVec 32 := Scalar.addi v2 c21_i32_369
  let c32_i32_370 : BitVec 32 := 32#32
  let v379 : BitVec 32 := Scalar.remsi v378 c32_i32_370
  let c1_i32_375 : BitVec 32 := 1#32
  let v380 : BitVec 32 := Scalar.muli v379 c1_i32_375
  let v381 : BitVec 32 := Scalar.addi c0_i32_376 v380
  v381.toNat
def k2_dev53 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_381 : BitVec 32 := 22#32
  let v390 : BitVec 32 := Scalar.addi v2 c22_i32_381
  let c32_i32_382 : BitVec 32 := 32#32
  let v391 : BitVec 32 := Scalar.remsi v390 c32_i32_382
  let c1_i32_387 : BitVec 32 := 1#32
  let v392 : BitVec 32 := Scalar.muli v391 c1_i32_387
  let v393 : BitVec 32 := Scalar.addi c0_i32_388 v392
  v393.toNat
def k2_dev54 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_393 : BitVec 32 := 23#32
  let v402 : BitVec 32 := Scalar.addi v2 c23_i32_393
  let c32_i32_394 : BitVec 32 := 32#32
  let v403 : BitVec 32 := Scalar.remsi v402 c32_i32_394
  let c1_i32_399 : BitVec 32 := 1#32
  let v404 : BitVec 32 := Scalar.muli v403 c1_i32_399
  let v405 : BitVec 32 := Scalar.addi c0_i32_400 v404
  v405.toNat
def k2_dev55 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_405 : BitVec 32 := 24#32
  let v414 : BitVec 32 := Scalar.addi v2 c24_i32_405
  let c32_i32_406 : BitVec 32 := 32#32
  let v415 : BitVec 32 := Scalar.remsi v414 c32_i32_406
  let c1_i32_411 : BitVec 32 := 1#32
  let v416 : BitVec 32 := Scalar.muli v415 c1_i32_411
  let v417 : BitVec 32 := Scalar.addi c0_i32_412 v416
  v417.toNat
def k2_dev56 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_417 : BitVec 32 := 25#32
  let v426 : BitVec 32 := Scalar.addi v2 c25_i32_417
  let c32_i32_418 : BitVec 32 := 32#32
  let v427 : BitVec 32 := Scalar.remsi v426 c32_i32_418
  let c1_i32_423 : BitVec 32 := 1#32
  let v428 : BitVec 32 := Scalar.muli v427 c1_i32_423
  let v429 : BitVec 32 := Scalar.addi c0_i32_424 v428
  v429.toNat
def k2_dev57 (d0 : Dev nD) : Nat :=
  let c0_i32_436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_429 : BitVec 32 := 26#32
  let v438 : BitVec 32 := Scalar.addi v2 c26_i32_429
  let c32_i32_430 : BitVec 32 := 32#32
  let v439 : BitVec 32 := Scalar.remsi v438 c32_i32_430
  let c1_i32_435 : BitVec 32 := 1#32
  let v440 : BitVec 32 := Scalar.muli v439 c1_i32_435
  let v441 : BitVec 32 := Scalar.addi c0_i32_436 v440
  v441.toNat
def k2_dev58 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_441 : BitVec 32 := 27#32
  let v450 : BitVec 32 := Scalar.addi v2 c27_i32_441
  let c32_i32_442 : BitVec 32 := 32#32
  let v451 : BitVec 32 := Scalar.remsi v450 c32_i32_442
  let c1_i32_447 : BitVec 32 := 1#32
  let v452 : BitVec 32 := Scalar.muli v451 c1_i32_447
  let v453 : BitVec 32 := Scalar.addi c0_i32_448 v452
  v453.toNat
def k2_dev59 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_453 : BitVec 32 := 28#32
  let v462 : BitVec 32 := Scalar.addi v2 c28_i32_453
  let c32_i32_454 : BitVec 32 := 32#32
  let v463 : BitVec 32 := Scalar.remsi v462 c32_i32_454
  let c1_i32_459 : BitVec 32 := 1#32
  let v464 : BitVec 32 := Scalar.muli v463 c1_i32_459
  let v465 : BitVec 32 := Scalar.addi c0_i32_460 v464
  v465.toNat
def k2_dev60 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_465 : BitVec 32 := 29#32
  let v474 : BitVec 32 := Scalar.addi v2 c29_i32_465
  let c32_i32_466 : BitVec 32 := 32#32
  let v475 : BitVec 32 := Scalar.remsi v474 c32_i32_466
  let c1_i32_471 : BitVec 32 := 1#32
  let v476 : BitVec 32 := Scalar.muli v475 c1_i32_471
  let v477 : BitVec 32 := Scalar.addi c0_i32_472 v476
  v477.toNat
def k2_dev61 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_477 : BitVec 32 := 30#32
  let v486 : BitVec 32 := Scalar.addi v2 c30_i32_477
  let c32_i32_478 : BitVec 32 := 32#32
  let v487 : BitVec 32 := Scalar.remsi v486 c32_i32_478
  let c1_i32_483 : BitVec 32 := 1#32
  let v488 : BitVec 32 := Scalar.muli v487 c1_i32_483
  let v489 : BitVec 32 := Scalar.addi c0_i32_484 v488
  v489.toNat
def k2_dev62 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_489 : BitVec 32 := 31#32
  let v498 : BitVec 32 := Scalar.addi v2 c31_i32_489
  let c32_i32_490 : BitVec 32 := 32#32
  let v499 : BitVec 32 := Scalar.remsi v498 c32_i32_490
  let c1_i32_495 : BitVec 32 := 1#32
  let v500 : BitVec 32 := Scalar.muli v499 c1_i32_495
  let v501 : BitVec 32 := Scalar.addi c0_i32_496 v500
  v501.toNat
abbrev stage2_0 : Fin 1 → Memref sig .tc .vmem S128x8192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Exch.lean ====
/-
  The exchange both communicating calls make, stated once.

  A call is described by a record `Exch`: its barrier semaphore, one send and one receive semaphore per partner, and for
  every device and partner the piece the copy reads and the piece it writes. The programs `signals`, `sends` and `waits`
  run over a list of partners; a call's printed body is these three over all thirty-one.
-/
module

public import Idealize.ShloMosaic.Lib.Pipeline.Regions
public import Idealize.ShloMosaic.Lib.Pipeline.Kit
public import Idealize.ShloMosaic.Lib.Rounds
public import Idealize.ShloMosaic.Lib.Rounds.Family
public import Idealize.ShloMosaic.Lib.StableHlo
public import Idealize.ShloMosaic.Lib.Tactic
public import Idealize.ShloMosaic.Lib.Sig
public import Idealize.ShloMosaic.PureOps
public import Idealize.ShloMosaic.Lib.Pipeline.RegionTalk

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Number of devices on the mesh. -/
abbrev nD : Nat := 32
/-- The devices' topology. -/
abbrev τ : Topo := Topo.v7x

/-- The thirty-one partners of a device, in the order the kernel visits them. -/
def all : List (Fin 31) :=
  [0, 1, 2, 3, 4, 5, 6, 7, 8, 9, 10, 11, 12, 13, 14, 15, 16, 17, 18, 19, 20, 21, 22, 23, 24, 25, 26, 27, 28, 29, 30]

/-- What one call exchanges: partner `k` of device `c` is the device `k + 1` places on. -/
structure Exch (sig : RefSig) where
  /-- the shape of one piece -/
  shape : Shape
  /-- the barrier semaphore -/
  bar : Sem sig
  /-- the send semaphores -/
  snd : Fin 31 → DmaSem sig
  /-- the receive semaphores -/
  rcv : Fin 31 → DmaSem sig
  /-- the partner a device's program computes -/
  dev : Dev nD → Fin 31 → Dev nD
  /-- the piece device `c` sends to its partner `k` -/
  src : Dev nD → Fin 31 → Memref sig .tc .vmem shape .f32
  /-- where on the partner it lands -/
  dst : Dev nD → Fin 31 → Memref sig .tc .vmem shape .f32
  wsrc : ∀ c k, (src c k).view.WordExact
  wdst : ∀ c k, (dst c k).view.WordExact
  hsc : ∀ c k, (dst c k).view.ref.isScScratch = false

variable {sig : RefSig} {Val : EltTy → Type} {Λ : Labels}

/-- Signal the barrier of every partner in the list, then go on. -/
def Exch.signals (E : Exch sig) (c : Dev nD) :
    List (Fin 31) → Prog (TpuEff nD τ sig Val Λ .tc) PUnit → Prog (TpuEff nD τ sig Val Λ .tc) PUnit
  | [], K => K
  | k :: l, K => .op (.semSignal (E.dev c k).tc E.bar 1) fun _ => E.signals c l K

/-- Start the copy number `k` of device `c`, addressed to device `d`. -/
abbrev Exch.send (E : Exch sig) (c d : Dev nD) (k : Fin 31) : TpuEff nD τ sig Val Λ .tc PUnit :=
  .enqueueDma (E.src c k) (.remote d.tc (E.dst c k) (.dma (E.snd k)) (E.hsc c k)) (.dma (E.rcv k)) (E.wsrc c k) (E.wdst c k)
    ⟨⟨rfl, Or.inl rfl⟩, trivial⟩

/-- Start the copy to every partner in the list, then go on. -/
def Exch.sends (E : Exch sig) (c : Dev nD) :
    List (Fin 31) → Prog (TpuEff nD τ sig Val Λ .tc) PUnit → Prog (TpuEff nD τ sig Val Λ .tc) PUnit
  | [], K => K
  | k :: l, K => .op (E.send c (E.dev c k) k) fun _ => E.sends c l K

/-- For every partner in the list wait until the own copy is sent and until the piece meant for this device is there,
    then go on. -/
def Exch.waits (E : Exch sig) (c : Dev nD) :
    List (Fin 31) → Prog (TpuEff nD τ sig Val Λ .tc) PUnit → Prog (TpuEff nD τ sig Val Λ .tc) PUnit
  | [], K => K
  | k :: l, K =>
    .op (.waitDma2 (E.snd k) (E.dst c k) (E.src c k) (E.wdst c k) (E.wsrc c k)) fun _ =>
    .op (.waitDma2 (E.rcv k) (E.src c k) (E.dst c k) (E.wsrc c k) (E.wdst c k)) fun _ => E.waits c l K

end Cert.Ring

end
-- ==== Proof.Loop.lean ====
/-
  The two communicating calls of the kernel as instances of `Cert.Ring.Exch`, and their printed bodies as its programs.
-/
module

public import proofs.«01_k».proof.Proof.Gen.KernelIdeal.Skeleton
public import proofs.«01_k».proof.Proof.Exch

@[expose] public section

set_option synthInstance.maxSize 4096

noncomputable section

namespace Cert.KernelIdeal

open Idealize.ShloMosaic Idealize.SL.Sem
open Cert.KernelIdeal.Gen Cert.Ring

variable {F : FTy → Type} [FloatOps F]

/-- The word a kernel computes for the partner `w` places on. -/
def devW (d0 : Dev nD) (w : BitVec 32) : Nat :=
  (Scalar.addi 0#32 (Scalar.muli (Scalar.remsi (Scalar.addi (Scalar.remsi (Scalar.divsi (Dev.word d0) 1#32) 32#32) w) 32#32) 1#32)).toNat

/-- Partner `k` as a word. -/
abbrev wd (k : Fin 31) : BitVec 32 := BitVec.ofNat 32 (1 + k.val)

theorem devW_eq (d0 : Dev nD) (k : Fin 31) : devW d0 (wd k) = (d0.val + (1 + k.val)) % 32 := by
  revert d0 k; decide +kernel

theorem devW_lt (d0 : Dev nD) (k : Fin 31) : devW d0 (wd k) < 32 := by
  rw [devW_eq]; exact Nat.mod_lt _ (by decide)

theorem inb_S31 (k : Fin 31) : ∀ a, (![k.val] : Fin 1 → Nat) a + S1.size a ≤ S31.size a := by
  revert k; decide

theorem inb_slot (k : Fin 32) : ∀ a, (![k.val, 0, 0] : Fin 3 → Nat) a + S1x8x128.size a ≤ S32x8x128.size a := by
  revert k; decide

/-- One semaphore of an array of thirty-one. -/
abbrev semAt (a : DmaSems sig S31) (k : Fin 31) : DmaSem sig :=
  ((a.slice (Rect.unit (s := S31) ![k.val] S1.size (inb_S31 k))).squeeze S_ squeezes_S1_S_).sem

/-- The all-to-all's exchange. -/
def exch0 (arg0 : Memref sig .tc .vmem S4096x128 .f32) (arg1 : Memref sig .tc .vmem S128x4096 .f32)
    (arg2 arg3 : DmaSems sig S31) (h1 : arg1.view.ref.isScScratch = false) : Exch sig where
  shape := S128x128
  bar := (SemArray.scalar (sig.barrier 0 rfl) : Sems sig S_).sem
  snd := semAt arg2
  rcv := semAt arg3
  dev c k := ⟨devW c (wd k), devW_lt c k⟩
  src c k := arg0.slice (Rect.unit (s := S4096x128) (k0_off4 c (wd k)) S128x128.size (k0_off4_inb c k)) (fun _ => rfl)
  dst c k := arg1.slice (Rect.unit (s := S128x4096) (k0_off3 c) S128x128.size (k0_off3_inb c)) (fun _ => rfl)
  wsrc _ _ := View.wordExact_bits rfl
  wdst _ _ := View.wordExact_bits rfl
  hsc _ _ := h1

set_option maxRecDepth 100000 in
set_option maxHeartbeats 4000000 in
theorem cc0_body_loop (arg0 : Memref sig .tc .vmem S4096x128 .f32) (harg0 : arg0.IsWhole) (arg1 : Memref sig .tc .vmem S128x4096 .f32) (harg1 : arg1.IsWhole)
    (arg2 : DmaSems sig S31) (arg3 : DmaSems sig S31) (h1 : arg1.view.ref.isScScratch = false) :
    cc0_body (F := F) arg0 harg0 arg1 harg1 arg2 arg3 = .op .deviceId fun d0 =>
      (exch0 arg0 arg1 arg2 arg3 h1).signals d0 Ring.all <|
      .op (.semWait (exch0 arg0 arg1 arg2 arg3 h1).bar 31) fun _ =>
      .op (.load arg0 (Rect.unit (s := S4096x128) (k0_off1 d0) S128x128.size (k0_off1_inb d0)).toLoadRect (View.loadsAt_vmem h_S128x128)) fun v130 =>
      .op (.load arg1 (Rect.unit (s := S128x4096) (k0_off2 d0) S128x128.size (k0_off2_inb d0)).toLoadRect (View.loadsAt_vmem h_S128x128)) fun _ =>
      .op (.store arg1 (Rect.unit (s := S128x4096) (k0_off2 d0) S128x128.size (k0_off2_inb d0)) (k0_pay1 v130) Finset.univ (View.stores_vmem_bits_univ h_S128x128 rfl) (.inl rfl)) fun _ =>
      (exch0 arg0 arg1 arg2 arg3 h1).sends d0 Ring.all <|
      (exch0 arg0 arg1 arg2 arg3 h1).waits d0 Ring.all <| .ret ⟨⟩ := rfl

/-- Slot `k` of the buffer of maxima. -/
abbrev slotM (arg2 : Memref sig .tc .vmem S32x8x128 .f32) (k : Fin 32) : Memref sig .tc .vmem S8x128 .f32 :=
  (arg2.slice (Rect.unit (s := S32x8x128) ![k.val, 0, 0] S1x8x128.size (inb_slot k)) (fun _ => rfl)).squeeze S8x128 squeezes_S1x8x128_S8x128

/-- The exchange of the maxima. -/
def exch2 (arg2 : Memref sig .tc .vmem S32x8x128 .f32) (arg3 arg4 : DmaSems sig S31) (h2 : arg2.view.ref.isScScratch = false) : Exch sig where
  shape := S8x128
  bar := (SemArray.scalar (sig.barrier 1 rfl) : Sems sig S_).sem
  snd := semAt arg3
  rcv := semAt arg4
  dev c k := ⟨devW c (wd k), devW_lt c k⟩
  src _ _ := slotM arg2 0
  dst _ k := slotM arg2 ⟨1 + k.val, by omega⟩
  wsrc _ _ := (View.wordExact_bits rfl).reshape _ _
  wdst _ _ := (View.wordExact_bits rfl).reshape _ _
  hsc _ _ := h2

set_option maxRecDepth 100000 in
set_option maxHeartbeats 4000000 in
theorem cc2_body_loop (arg0 : Memref sig .tc .vmem S128x8192 .f32) (harg0 : arg0.IsWhole) (arg1 : Memref sig .tc .vmem S128x8192 .f32) (harg1 : arg1.IsWhole)
    (arg2 : Memref sig .tc .vmem S32x8x128 .f32) (harg2 : arg2.IsWhole) (arg3 : DmaSems sig S31) (arg4 : DmaSems sig S31) (h2 : arg2.view.ref.isScScratch = false) :
    cc2_body (F := F) arg0 harg0 arg1 harg1 arg2 harg2 arg3 arg4 = .op .deviceId fun d0 =>
      .op (.load arg0 (Rect.unit (s := S128x8192) ![0, 0] S128x8192.size inb_S128x8192_S128x8192_0_0).toLoadRect (View.loadsAt_vmem h_S128x8192)) fun v3 =>
      .op (.load arg2 (Rect.unit (s := S32x8x128) ![0, 0, 0] S1x8x128.size inb_S32x8x128_S1x8x128_0_0_0).toLoadRect (View.loadsAt_vmem h_S1x8x128)) fun _ =>
      .op (.store arg2 (Rect.unit (s := S32x8x128) ![0, 0, 0] S1x8x128.size inb_S32x8x128_S1x8x128_0_0_0) (k2_pay2 v3) Finset.univ (View.stores_vmem_bits_univ h_S1x8x128 rfl) (.inl rfl)) fun _ =>
      (exch2 arg2 arg3 arg4 h2).signals d0 Ring.all <|
      .op (.semWait (exch2 arg2 arg3 arg4 h2).bar 31) fun _ =>
      (exch2 arg2 arg3 arg4 h2).sends d0 Ring.all <|
      (exch2 arg2 arg3 arg4 h2).waits d0 Ring.all <|
      .op (.load arg2 (Rect.unit (s := S32x8x128) ![0, 0, 0] S32x8x128.size inb_S32x8x128_S32x8x128_0_0_0).toLoadRect (View.loadsAt_vmem h_S32x8x128)) fun v944 =>
      .op (.load arg0 (Rect.unit (s := S128x8192) ![0, 0] S128x8192.size inb_S128x8192_S128x8192_0_0).toLoadRect (View.loadsAt_vmem h_S128x8192)) fun v951 =>
      .op (.load arg1 (Rect.unit (s := S128x8192) ![0, 0] S128x8192.size inb_S128x8192_S128x8192_0_0).toLoadRect (View.loadsAt_vmem h_S128x8192)) fun _ =>
      .op (.store arg1 (Rect.unit (s := S128x8192) ![0, 0] S128x8192.size inb_S128x8192_S128x8192_0_0) (k2_pay1 (k2_pay3 v944) (k2_pay4 v944 v951)) Finset.univ (View.stores_vmem_bits_univ h_S128x8192 rfl) (.inl rfl)) fun _ =>
      .ret ⟨⟩ := rfl

end Cert.KernelIdeal

end
-- ==== Proof.Proto.lean ====
/-
  The protocol of an exchange and what each phase of a body does with it.

  Device `c` owns the pieces its partners will write. Its signal to partner `pr c k` hands over the piece that partner will
  write on `c`; its wait on its own barrier receives from each partner the piece `c` will write there. A copy pays the
  send cell of `c` with the source and the receive cell of the partner with the piece rewritten. Each wait takes one such
  payment.
-/
module

public import proofs.«01_k».proof.Proof.Exch
public import Idealize.ShloMosaic.Lib.Pipeline.BigSepL

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Partners -/

/-- Partner `k` of device `c`. -/
def pr (c : Dev nD) (k : Fin 31) : Dev nD := ⟨(c.val + (1 + k.val)) % 32, Nat.mod_lt _ (by decide)⟩
/-- The device whose partner `k` is `c`. -/
def pl (c : Dev nD) (k : Fin 31) : Dev nD := ⟨(c.val + (31 - k.val)) % 32, Nat.mod_lt _ (by decide)⟩
/-- The number under which a partner counts a device back. -/
def rev (k : Fin 31) : Fin 31 := ⟨30 - k.val, by omega⟩

theorem pr_pl (c : Dev nD) (k : Fin 31) : pr (pl c k) k = c := by
  apply Fin.ext; have : c.val < 32 := c.isLt; have := k.isLt; simp only [pr, pl]; omega
theorem pl_pr (c : Dev nD) (k : Fin 31) : pl (pr c k) k = c := by
  apply Fin.ext; have : c.val < 32 := c.isLt; have := k.isLt; simp only [pr, pl]; omega
theorem pr_pr (c : Dev nD) (k : Fin 31) : pr (pr c k) (rev k) = c := by
  apply Fin.ext; have : c.val < 32 := c.isLt; have := k.isLt; simp only [pr, rev]; omega
theorem rev_rev (k : Fin 31) : rev (rev k) = k := by
  apply Fin.ext; have := k.isLt; simp only [rev]; omega
theorem pl_rev (c : Dev nD) (k : Fin 31) : pl c (rev k) = pr c k := by
  apply Fin.ext; have : c.val < 32 := c.isLt; have := k.isLt; simp only [pr, pl, rev]; omega
theorem pr_ne (c : Dev nD) (k : Fin 31) : pr c k ≠ c := by
  intro h; have := congrArg Fin.val h; have : c.val < 32 := c.isLt; have := k.isLt; simp only [pr] at *; omega
theorem pr_inj (c : Dev nD) {k k' : Fin 31} (h : pr c k = pr c k') : k = k' := by
  have := congrArg Fin.val h; have : c.val < 32 := c.isLt; have := k.isLt; have := k'.isLt; apply Fin.ext; simp only [pr] at *; omega

/-- Going to the partner `k`, as a permutation of the devices. -/
def ring (k : Fin 31) : Dev nD ≃ Dev nD := ⟨(pr · k), (pl · k), (pl_pr · k), (pr_pl · k)⟩
/-- Counting back, as a permutation of the partners. -/
def flip : Fin 31 ≃ Fin 31 := ⟨rev, rev, rev_rev, rev_rev⟩

theorem all_nodup : all.Nodup := by decide
theorem all_toFinset : all.toFinset = Finset.univ := by decide

/-- A family over all partners, listed. -/
theorem bigSep_all {M : Type _} [URA M] (Φ : Fin 31 → sProp M) : bigSep Finset.univ Φ = bigSepL all Φ :=
  bigSep_univ_eq_bigSepL all (by decide) all_nodup Φ

/-- What a semaphore is in an exchange. -/
inductive Role
  | bar
  | snd (k : Fin 31)
  | rcv (k : Fin 31)
deriving DecidableEq

variable {sig : RefSig} {F : FTy → Type}

/-- An exchange with the contents it moves. -/
structure Proto (sig : RefSig) (F : FTy → Type) extends Exch sig where
  role : SemLoc sig → Option Role
  role_bar : role (.reg bar) = some .bar
  role_snd : ∀ k, role (.dma (snd k)) = some (.snd k)
  role_rcv : ∀ k, role (.dma (rcv k)) = some (.rcv k)
  dev_eq : ∀ c k, dev c k = pr c k
  /-- the share of the source a copy holds while it is under way -/
  q : Fin 31 → PosShare TreeShare
  /-- what the source holds -/
  S : ∀ c k, Buf (Elt F) ((src c k).view.loc (c : Thread nD τ))
  /-- what the destination holds once the copy has landed -/
  T : ∀ c k, Buf (Elt F) ((dst c k).view.loc (pr c k : Thread nD τ))
  land : ∀ c k (fd : Buf (Elt F) ((dst c k).view.loc (pr c k : Thread nD τ))), ∀ i ∈ (dst c k).view.set,
    (dst c k).view.write (Elt F) fd ((src c k).view.read (Elt F) (S c k)) Finset.univ i = T c k i
  /-- the credit of one copy -/
  N : ℕ
  N_pos : 0 < N
  amt_dst : ∀ c k, (dst c k).view.dmaCredit = N
  amt_src : ∀ c k, (src c k).view.dmaCredit = N

namespace Proto

variable (P : Proto sig F)
variable {U : Type} [URA U]

local notation "𝕄" => MT nD τ sig Unit (Elt F) ℕ U ℕ

variable (ER : Emb (URounds (GSem nD τ sig) (Fin 31)) (MT nD τ sig Unit (Elt F) ℕ U ℕ)) [ER.LandsIn (upEmb : UEmb _ (MT nD τ sig Unit (Elt F) ℕ U ℕ))]

/-! ## Cells and payments -/

abbrev barCell (c : Dev nD) : GSem nD τ sig := ((c : Thread nD τ), .reg P.bar)
abbrev sndCell (c : Dev nD) (k : Fin 31) : GSem nD τ sig := ((c : Thread nD τ), .dma (P.snd k))
abbrev rcvCell (c : Dev nD) (k : Fin 31) : GSem nD τ sig := ((c : Thread nD τ), .dma (P.rcv k))

/-- The piece on partner `k` that device `c` will write, at some contents. -/
def slot (c : Dev nD) (k : Fin 31) : sProp 𝕄 :=
  iprop(∃ f, (P.dst c k).view.loc (pr c k : Thread nD τ) ↦[(P.dst c k).view.set]{fullShare} f)
/-- Paid to the barrier of `c` by its partner `k`. -/
def barPay (c : Dev nD) (k : Fin 31) : sProp 𝕄 := iprop(P.slot c k ∗ reached ER (P.rcvCell (pr c k) k) 0)
/-- Paid to the send cell `k` of `c`: the source back. -/
def sndPay (c : Dev nD) (k : Fin 31) : sProp 𝕄 := (P.src c k).view.loc (c : Thread nD τ) ↦[(P.src c k).view.set]{P.q k} P.S c k
/-- Paid by the copy `k` of `c`: the piece on the partner, rewritten. -/
def rcvPay (c : Dev nD) (k : Fin 31) : sProp 𝕄 :=
  (P.dst c k).view.loc (pr c k : Thread nD τ) ↦[(P.dst c k).view.set]{fullShare} P.T c k

/-- Round 0 is the only one. -/
def rd : Rounds.Schedule (GSem nD τ sig) (Fin 31) 𝕄 where
  duties g r := if r = 0 ∧ g.1.2 = .tc then
    match P.role g.2 with | some .bar => Finset.univ | some (.snd _) => {0} | some (.rcv _) => {0} | none => ∅ else ∅
  unitless _ := False
  amount g _ _ := match P.role g.2 with | some .bar => 1 | _ => P.N
  payload g _ d := match P.role g.2 with
    | some .bar => P.barPay ER g.1.1 d
    | some (.snd k) => P.sndPay g.1.1 k
    | some (.rcv k) => P.rcvPay (pl g.1.1 k) k
    | none => iprop(emp)
  amount_pos g _ _ _ := by
    split
    · exact Nat.one_pos
    · exact P.N_pos

instance rd_storable (g : GSem nD τ sig) (r : ℕ) (d : Fin 31) : BI.Storable (upEmb : UEmb _ 𝕄) ((P.rd ER).payload g r d) := by
  show BI.Storable upEmb (match P.role g.2 with
    | some .bar => P.barPay ER g.1.1 d
    | some (.snd k) => P.sndPay g.1.1 k
    | some (.rcv k) => P.rcvPay (pl g.1.1 k) k
    | none => iprop(emp))
  unfold barPay sndPay rcvPay slot
  split <;> infer_instance

section Sched
variable (c : Dev nD) (k : Fin 31)

theorem duties_bar : (P.rd ER).duties (P.barCell c) 0 = Finset.univ := by
  dsimp only [rd]; rw [if_pos ⟨rfl, rfl⟩, P.role_bar]
theorem duties_snd : (P.rd ER).duties (P.sndCell c k) 0 = {0} := by
  dsimp only [rd]; rw [if_pos ⟨rfl, rfl⟩, P.role_snd]
theorem duties_rcv : (P.rd ER).duties (P.rcvCell c k) 0 = {0} := by
  dsimp only [rd]; rw [if_pos ⟨rfl, rfl⟩, P.role_rcv]
theorem duties_later (g : GSem nD τ sig) : ∀ r, 1 ≤ r → (P.rd ER).duties g r = ∅ :=
  fun r hr => by dsimp only [rd]; rw [if_neg (fun h => by omega)]
theorem amount_bar (d : Fin 31) : (P.rd ER).amount (P.barCell c) 0 d = 1 := by dsimp only [rd]; rw [P.role_bar]
theorem amount_snd (d : Fin 31) : (P.rd ER).amount (P.sndCell c k) 0 d = P.N := by dsimp only [rd]; rw [P.role_snd]
theorem amount_rcv (d : Fin 31) : (P.rd ER).amount (P.rcvCell c k) 0 d = P.N := by dsimp only [rd]; rw [P.role_rcv]
theorem payload_bar (d : Fin 31) : (P.rd ER).payload (P.barCell c) 0 d = P.barPay ER c d := by dsimp only [rd]; rw [P.role_bar]
theorem payload_snd (d : Fin 31) : (P.rd ER).payload (P.sndCell c k) 0 d = P.sndPay c k := by dsimp only [rd]; rw [P.role_snd]
theorem payload_rcv (d : Fin 31) : (P.rd ER).payload (P.rcvCell c k) 0 d = P.rcvPay (pl c k) k := by dsimp only [rd]; rw [P.role_rcv]
theorem expect_bar : (P.rd ER).expect (P.barCell c) 0 = 31 := by
  unfold Schedule.expect Schedule.amountOf; rw [duties_bar]; simp only [amount_bar]; rfl
theorem expect_snd : (P.rd ER).expect (P.sndCell c k) 0 = P.N := by
  unfold Schedule.expect Schedule.amountOf; rw [duties_snd, Finset.sum_singleton, amount_snd]
theorem expect_rcv : (P.rd ER).expect (P.rcvCell c k) 0 = P.N := by
  unfold Schedule.expect Schedule.amountOf; rw [duties_rcv, Finset.sum_singleton, amount_rcv]

theorem rest_bar : bigSep ((P.rd ER).duties (P.barCell c) 0 \ ∅) (fun u => (P.rd ER).payload (P.barCell c) 0 u) = bigSepL all (P.barPay ER c) := by
  rw [Finset.sdiff_empty, duties_bar, ← bigSep_all]; exact bigSep_congr fun d _ => P.payload_bar ER c d
theorem rest_snd : bigSep ((P.rd ER).duties (P.sndCell c k) 0 \ ∅) (fun u => (P.rd ER).payload (P.sndCell c k) 0 u) = P.sndPay c k := by
  rw [Finset.sdiff_empty, duties_snd, bigSep_singleton, payload_snd]
theorem rest_rcv : bigSep ((P.rd ER).duties (P.rcvCell c k) 0 \ ∅) (fun u => (P.rd ER).payload (P.rcvCell c k) 0 u) = P.rcvPay (pl c k) k := by
  rw [Finset.sdiff_empty, duties_rcv, bigSep_singleton, payload_rcv]

end Sched

/-! ## Facts every device shares -/

variable (K : GSem nD τ sig → ℕ)

abbrev cinv (g : GSem nD τ sig) : sProp 𝕄 := cellInv ER (P.rd ER) (K g) g

/-- One device's cells. -/
def devInv (c : Dev nD) : sProp 𝕄 :=
  iprop(P.cinv ER K (P.barCell c) ∗ reached ER (P.barCell c) 0
    ∗ bigSep Finset.univ fun k => iprop(P.cinv ER K (P.sndCell c k) ∗ P.cinv ER K (P.rcvCell c k)))
/-- Every device's cells, and that every barrier is open. -/
def shared : sProp 𝕄 := bigSep Finset.univ fun c : Dev nD => P.devInv ER K c

instance devInv_persistent (c : Dev nD) : BI.Persistent (P.devInv ER K c) := by unfold devInv; infer_instance
instance shared_persistent : BI.Persistent (P.shared ER K) := by unfold shared; infer_instance

theorem shared_dev (c : Dev nD) : P.shared ER K ⊢ P.devInv ER K c := by
  unfold shared; exact BI.bigSep_elim (Finset.mem_univ c)
theorem shared_bar (c : Dev nD) : P.shared ER K ⊢ P.cinv ER K (P.barCell c) :=
  (P.shared_dev ER K c).trans (by unfold devInv; iintro ⟨H, -, -⟩; iexact H)
theorem shared_reached (c : Dev nD) : P.shared ER K ⊢ reached ER (P.barCell c) 0 :=
  (P.shared_dev ER K c).trans (by unfold devInv; iintro ⟨-, H, -⟩; iexact H)
theorem shared_both (c : Dev nD) (k : Fin 31) : P.shared ER K ⊢ iprop(P.cinv ER K (P.sndCell c k) ∗ P.cinv ER K (P.rcvCell c k)) :=
  (P.shared_dev ER K c).trans (by
    unfold devInv; iintro ⟨-, -, H⟩
    have h : (bigSep Finset.univ fun k => iprop(P.cinv ER K (P.sndCell c k) ∗ P.cinv ER K (P.rcvCell c k)))
      ⊢ iprop(P.cinv ER K (P.sndCell c k) ∗ P.cinv ER K (P.rcvCell c k)) := BI.bigSep_elim (Finset.mem_univ k)
    iapply h; iexact H)
theorem shared_snd (c : Dev nD) (k : Fin 31) : P.shared ER K ⊢ P.cinv ER K (P.sndCell c k) :=
  (P.shared_both ER K c k).trans (by iintro ⟨H, -⟩; iexact H)
theorem shared_rcv (c : Dev nD) (k : Fin 31) : P.shared ER K ⊢ P.cinv ER K (P.rcvCell c k) :=
  (P.shared_both ER K c k).trans (by iintro ⟨-, H⟩; iexact H)

/-- That a device's own send and receive cells are open. -/
def opened (c : Dev nD) : sProp 𝕄 :=
  bigSep Finset.univ fun k => iprop(reached ER (P.sndCell c k) 0 ∗ reached ER (P.rcvCell c k) 0)
instance opened_persistent (c : Dev nD) : BI.Persistent (P.opened ER c) := by unfold opened; infer_instance
theorem opened_both (c : Dev nD) (k : Fin 31) : P.opened ER c ⊢ iprop(reached ER (P.sndCell c k) 0 ∗ reached ER (P.rcvCell c k) 0) := by
  unfold opened; exact BI.bigSep_elim (Φ := fun k => iprop(reached ER (P.sndCell c k) 0 ∗ reached ER (P.rcvCell c k) 0)) (Finset.mem_univ k)
theorem opened_snd (c : Dev nD) (k : Fin 31) : P.opened ER c ⊢ reached ER (P.sndCell c k) 0 :=
  (P.opened_both ER c k).trans (by iintro ⟨H, -⟩; iexact H)
theorem opened_rcv (c : Dev nD) (k : Fin 31) : P.opened ER c ⊢ reached ER (P.rcvCell c k) 0 :=
  (P.opened_both ER c k).trans (by iintro ⟨-, H⟩; iexact H)

/-! ## What a device owes -/

/-- `O` and one barrier unit to every partner in the list. -/
def sigDues (c : Dev nD) : List (Fin 31) → CellTallies nD τ sig Unit → CellTallies nD τ sig Unit
  | [], O => O
  | k :: l, O => sigDues c l O + tallyAt (P.barCell (pr c k)) () 1
/-- `O` and one copy to every partner in the list. -/
def cpyDues (c : Dev nD) : List (Fin 31) → CellTallies nD τ sig Unit → CellTallies nD τ sig Unit
  | [], O => O
  | k :: l, O => cpyDues c l O + tallyAt (P.rcvCell (pr c k) k) () P.N

/-! ## The phases -/

variable {Λ : Labels} {defs : Defs nD τ sig (Elt F) Λ} (𝒱 : Variants)

/-- The signals. -/
theorem wp_signals (c : Dev nD) (l : List (Fin 31)) (O : CellTallies nD τ sig Unit) (W : Waits sig Unit)
    (Kp : Prog (TpuEff nD τ sig (Elt F) Λ .tc) PUnit) (Q : PUnit → sProp 𝕄) :
    iprop(P.shared ER K ∗ P.opened ER c ∗ owes (c : Thread nD τ) (P.sigDues c l O) W
        ∗ bigSepL l (fun k => iprop(dutyTok ER (P.barCell (pr c k)) 0 (rev k) ∗ P.slot (pr c k) (rev k)))
        ∗ (owes (c : Thread nD τ) O W -∗ wp frame (wpE defs 𝒱 c none) Set.univ Kp Q))
      ⊢ wp frame (wpE defs 𝒱 c none) Set.univ (P.toExch.signals c l Kp) Q := by
  induction l with
  | nil =>
    iintro ⟨-, -, HO, -, Hk⟩
    iapply Hk; iexact HO
  | cons k l ih =>
    rw [bigSepL_cons']
    unfold Exch.signals
    rw [P.dev_eq]
    iintro ⟨#Hsh, #Hop, HO, ⟨⟨Htok, Hs⟩, Hl⟩, Hk⟩
    ihave #Hinv := (P.shared_bar ER K (pr c k)) $$ Hsh
    ihave #Hr := (P.shared_reached ER K (pr c k)) $$ Hsh
    ihave #Hrc := (P.opened_rcv ER c (rev k)) $$ Hop
    iapply (Rounds.wp_signal 𝒱 ER (P.rd ER) (c : Thread nD τ) none (dst := (pr c k : Thread nD τ)) (sem := P.bar) (r := 0) (d := rev k) (κ := K (P.barCell (pr c k)))
      (by rw [duties_bar]; exact Finset.mem_univ _) (P.amount_bar ER (pr c k) (rev k)) () (P.sigDues c l O) rfl) $$ [HO Htok Hs]
    · isplitr; · iexact Hinv
      isplitl [HO]; · iexact HO
      isplitl [Htok]; · iexact Htok
      isplitl [Hs]
      · rw [payload_bar]; unfold barPay; rw [pr_pr]
        isplitl [Hs]; · iexact Hs
        iexact Hrc
      · iexact Hr
    iintro HO
    iapply ih
    isplitr; · iexact Hsh
    isplitr; · iexact Hop
    isplitl [HO]; · iexact HO
    isplitl [Hl]; · iexact Hl
    iexact Hk

/-- The barrier wait. -/
theorem wp_barrier (c : Dev nD) (O : CellTallies nD τ sig Unit) (W : Waits sig Unit) (lev : sProp 𝕄)
    (hlev : lev ⊢ MayWait (c : Thread nD τ) (.reg P.bar) () O)
    (Kp : Prog (TpuEff nD τ sig (Elt F) Λ .tc) PUnit) (Q : PUnit → sProp 𝕄) :
    iprop(P.shared ER K ∗ lev ∗ owes (c : Thread nD τ) O W ∗ cred (tallyAt (P.barCell c) () 31) ∗ atPos ER (P.barCell c) 0 ∅ 0
        ∗ (((∃ W, owes (c : Thread nD τ) O W) ∗ atPos ER (P.barCell c) 1 ∅ 0 ∗ bigSepL all (P.barPay ER c))
          -∗ wp frame (wpE defs 𝒱 c none) Set.univ Kp Q))
      ⊢ wp frame (wpE defs 𝒱 c none) Set.univ (.op (.semWait P.bar 31) fun _ => Kp) Q := by
  iintro ⟨#Hsh, Hlev, HO, Hc, Hat, Hk⟩
  ihave #Hinv := (P.shared_bar ER K c) $$ Hsh
  iapply (Rounds.wp_wait_rest_token 𝒱 ER (P.rd ER) (c : Thread nD τ) none (κ := K (P.barCell c)) (k' := 31)
      (wpE_semWait_eq 𝒱 (c : Thread nD τ) none Set.univ) (Set.mem_univ _) () (O := O) (W := W) (R := 0) (m := 0) (T := ∅)
      ((Nat.zero_add 31).trans (P.expect_bar ER c).symm)) $$ [Hc HO Hat Hlev]
  · isplitr; · iexact Hinv
    isplitl [Hc]; · iexact Hc
    isplitl [HO]; · iexact HO
    isplitl [Hlev]; · iapply hlev; iexact Hlev
    iexact Hat
  iintro ⟨HO, Hat, -, Hpay⟩
  iapply Hk
  isplitl [HO]; · iexists _; iexact HO
  isplitl [Hat]; · iexact Hat
  iapply (Entails.of_eq (P.rest_bar ER c)); iexact Hpay

/-- The copies. -/
theorem wp_sends (c : Dev nD) (l : List (Fin 31)) (O : CellTallies nD τ sig Unit) (W : Waits sig Unit)
    (Kp : Prog (TpuEff nD τ sig (Elt F) Λ .tc) PUnit) (Q : PUnit → sProp 𝕄) :
    iprop(P.shared ER K ∗ P.opened ER c ∗ owes (c : Thread nD τ) (P.cpyDues c l O) W
        ∗ bigSepL l (fun k => iprop(P.sndPay c k ∗ P.barPay ER c k ∗ dutyTok ER (P.sndCell c k) 0 0 ∗ dutyTok ER (P.rcvCell (pr c k) k) 0 0))
        ∗ ((owes (c : Thread nD τ) O W ∗ bigSepL l (fun k => cred (tallyAt (P.sndCell c k) () P.N))) -∗ wp frame (wpE defs 𝒱 c none) Set.univ Kp Q))
      ⊢ wp frame (wpE defs 𝒱 c none) Set.univ (P.toExch.sends c l Kp) Q := by
  induction l with
  | nil =>
    iintro ⟨-, -, HO, -, Hk⟩
    iapply Hk
    isplitl [HO]; · iexact HO
    iempintro
  | cons k l ih =>
    rw [bigSepL_cons', bigSepL_cons']
    unfold Exch.sends
    rw [P.dev_eq]
    iintro ⟨#Hsh, #Hop, HO, ⟨⟨Hsrc, Hb, Ht1, Ht2⟩, Hl⟩, Hk⟩
    unfold barPay
    icases Hb with ⟨Hs, #Hrp⟩
    ihave #Hinv1 := (P.shared_snd ER K c k) $$ Hsh
    ihave #Hinv2 := (P.shared_rcv ER K (pr c k) k) $$ Hsh
    ihave #Hr1 := (P.opened_snd ER c k) $$ Hop
    unfold slot
    icases Hs with ⟨%fd, Hs⟩
    iapply (Rounds.wp_send_pointsTo 𝒱 ER (P.rd ER) (c : Thread nD τ) none (c' := (pr c k : Thread nD τ)) (src := P.src c k) (dst := P.dst c k)
      (sS := .dma (P.snd k)) (sem := .dma (P.rcv k)) (q := P.q k) (fs := P.S c k) (κ₁ := K (P.sndCell c k)) (κ₂ := K (P.rcvCell (pr c k) k))
      (r₁ := 0) (r₂ := 0) (d₁ := 0) (d₂ := 0) (fd := fd)
      (by rw [duties_snd]; exact Finset.mem_singleton_self _) (by rw [duties_rcv]; exact Finset.mem_singleton_self _)
      () () P.N (P.amt_dst c k) (P.amount_snd ER c k 0) (P.amount_rcv ER (pr c k) k 0) (P.cpyDues c l O) rfl (W := W)
      (by rw [payload_snd]; exact BI.Entails.refl _)
      (by rw [payload_rcv, pl_pr]; unfold rcvPay; exact Entails.of_eq (pointsTo_congr (P.land c k fd)))) $$ [Hsrc Hs HO Ht1 Ht2]
    · isplitr; · iexact Hinv1
      isplitr; · iexact Hinv2
      isplitl [Hsrc]; · unfold sndPay; iexact Hsrc
      isplitl [Hs]; · iexact Hs
      isplitl [HO]; · iexact HO
      isplitl [Ht1]; · iexact Ht1
      isplitr; · iexact Hr1
      isplitl [Ht2]; · iexact Ht2
      iexact Hrp
    iintro ⟨Hc, HO⟩
    iapply ih
    isplitr; · iexact Hsh
    isplitr; · iexact Hop
    isplitl [HO]; · iexact HO
    isplitl [Hl]; · iexact Hl
    iintro ⟨HO, Hcs⟩
    iapply Hk
    isplitl [HO]; · iexact HO
    isplitl [Hc]; · iexact Hc
    iexact Hcs

/-- The waits. -/
theorem wp_waits (c : Dev nD) (l : List (Fin 31)) (O : CellTallies nD τ sig Unit) (W : Waits sig Unit) (lev : sProp 𝕄) [BI.Persistent lev]
    (hs : ∀ k, lev ⊢ MayWait (c : Thread nD τ) (.dma (P.snd k)) () O) (hr : ∀ k, lev ⊢ MayWait (c : Thread nD τ) (.dma (P.rcv k)) () O)
    (Kp : Prog (TpuEff nD τ sig (Elt F) Λ .tc) PUnit) (Q : PUnit → sProp 𝕄) :
    iprop(P.shared ER K ∗ lev ∗ owes (c : Thread nD τ) O W
        ∗ bigSepL l (fun k => iprop(cred (tallyAt (P.sndCell c k) () P.N) ∗ atPos ER (P.sndCell c k) 0 ∅ 0
            ∗ cred (tallyAt (P.rcvCell c k) () P.N) ∗ atPos ER (P.rcvCell c k) 0 ∅ 0))
        ∗ (((∃ W, owes (c : Thread nD τ) O W) ∗ bigSepL l (fun k => iprop((atPos ER (P.sndCell c k) 1 ∅ 0 ∗ atPos ER (P.rcvCell c k) 1 ∅ 0)
            ∗ P.sndPay c k ∗ P.rcvPay (pl c k) k))) -∗ wp frame (wpE defs 𝒱 c none) Set.univ Kp Q))
      ⊢ wp frame (wpE defs 𝒱 c none) Set.univ (P.toExch.waits c l Kp) Q := by
  induction l generalizing W with
  | nil =>
    iintro ⟨-, -, HO, -, Hk⟩
    iapply Hk
    isplitl [HO]; · iexists _; iexact HO
    iempintro
  | cons k l ih =>
    rw [bigSepL_cons', bigSepL_cons']
    unfold Exch.waits
    iintro ⟨#Hsh, #Hlev, HO, ⟨⟨Hc1, Hp1, Hc2, Hp2⟩, Hl⟩, Hk⟩
    ihave #Hinv1 := (P.shared_snd ER K c k) $$ Hsh
    ihave #Hinv2 := (P.shared_rcv ER K c k) $$ Hsh
    iapply (Rounds.wp_wait_rest_token 𝒱 ER (P.rd ER) (c : Thread nD τ) none (κ := K (P.sndCell c k))
      (wpE_waitDma2_eq 𝒱 (c : Thread nD τ) none Set.univ) (Set.mem_univ _) () (O := O) (W := W) (R := 0) (m := 0) (T := ∅)
      ((Nat.zero_add _).trans ((P.amt_src c k).trans (P.expect_snd ER c k).symm))) $$ [Hc1 HO Hp1]
    · isplitr; · iexact Hinv1
      isplitl [Hc1]; · rw [P.amt_src c k]; iexact Hc1
      isplitl [HO]; · iexact HO
      isplitr; · iapply (hs k); iexact Hlev
      iexact Hp1
    iintro ⟨HO, Hp1, -, Hpay⟩
    ihave Hy1 := (Entails.of_eq (P.rest_snd ER c k)) $$ Hpay
    iapply (Rounds.wp_wait_rest_token 𝒱 ER (P.rd ER) (c : Thread nD τ) none (κ := K (P.rcvCell c k))
      (wpE_waitDma2_eq 𝒱 (c : Thread nD τ) none Set.univ) (Set.mem_univ _) () (O := O) (W := insert (SemLoc.dma (P.snd k), ()) W) (R := 0) (m := 0) (T := ∅)
      ((Nat.zero_add _).trans ((P.amt_dst c k).trans (P.expect_rcv ER c k).symm))) $$ [Hc2 HO Hp2]
    · isplitr; · iexact Hinv2
      isplitl [Hc2]; · rw [P.amt_dst c k]; iexact Hc2
      isplitl [HO]; · iexact HO
      isplitr; · iapply (hr k); iexact Hlev
      iexact Hp2
    iintro ⟨HO, Hp2, -, Hpay⟩
    ihave Hy2 := (Entails.of_eq (P.rest_rcv ER c k)) $$ Hpay
    iapply (ih (insert (SemLoc.dma (P.rcv k), ()) (insert (SemLoc.dma (P.snd k), ()) W)))
    isplitr; · iexact Hsh
    isplitr; · iexact Hlev
    isplitl [HO]; · iexact HO
    isplitl [Hl]; · iexact Hl
    iintro ⟨HO, Hcs⟩
    iapply Hk
    isplitl [HO]; · iexact HO
    isplitr [Hcs]
    · isplitl [Hp1 Hp2]; · isplitl [Hp1] <;> iassumption
      isplitl [Hy1] <;> iassumption
    iexact Hcs

end Proto

end Cert.Ring

end
-- ==== Proof.Ghost.lean ====
/-
  The whole of an exchange on one device: the state it starts from, the state between the barrier and the copies, and the
  counters it ends with.
-/
module

public import proofs.«01_k».proof.Proof.Proto

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

namespace Proto

variable {sig : RefSig} {F : FTy → Type} (P : Proto sig F)
variable {U : Type} [URA U]

local notation "𝕄" => MT nD τ sig Unit (Elt F) ℕ U ℕ

variable (ER : Emb (URounds (GSem nD τ sig) (Fin 31)) (MT nD τ sig Unit (Elt F) ℕ U ℕ)) [ER.LandsIn (upEmb : UEmb _ (MT nD τ sig Unit (Elt F) ℕ U ℕ))]
variable (K : GSem nD τ sig → ℕ)

/-- The call's own semaphores: the send ones, then the receive ones. -/
def osem : Fin 31 ⊕ Fin 31 → SemLoc sig := Sum.elim (fun k => .dma (P.snd k)) (fun k => .dma (P.rcv k))

/-- The rights a device pays its partners with. -/
def toks (c : Dev nD) : sProp 𝕄 :=
  bigSep Finset.univ fun k => iprop(dutyTok ER (P.barCell (pr c k)) 0 (rev k) ∗ dutyTok ER (P.sndCell c k) 0 0 ∗ dutyTok ER (P.rcvCell (pr c k) k) 0 0)

/-- What a device has of the exchange whether or not its own cells are open. -/
def keep (c : Dev nD) : sProp 𝕄 :=
  iprop(P.shared ER K ∗ atPos ER (P.barCell c) 0 ∅ 0 ∗ cred (tallyAt (P.barCell c) () 31) ∗ P.toks ER c
    ∗ bigSep Finset.univ fun k => cred (tallyAt (P.rcvCell c k) () P.N))

/-- Before the call: its own cells not open yet. -/
def before (c : Dev nD) : sProp 𝕄 :=
  iprop(P.keep ER K c ∗ bigSep Finset.univ fun s => openTok ER ((c : Thread nD τ), P.osem s))

/-- At the start of the body: its own cells open. -/
def start (c : Dev nD) : sProp 𝕄 :=
  iprop(P.keep ER K c ∗ P.opened ER c ∗ bigSep Finset.univ fun k => iprop(atPos ER (P.sndCell c k) 0 ∅ 0 ∗ atPos ER (P.rcvCell c k) 0 ∅ 0))

/-- Between the barrier and the copies. -/
def mid (c : Dev nD) : sProp 𝕄 :=
  iprop(P.shared ER K ∗ P.opened ER c ∗ atPos ER (P.barCell c) 1 ∅ 0 ∗ (bigSepL all (P.barPay ER c))
    ∗ (bigSep Finset.univ fun k => iprop(dutyTok ER (P.sndCell c k) 0 0 ∗ dutyTok ER (P.rcvCell (pr c k) k) 0 0))
    ∗ (bigSep Finset.univ fun k => iprop(atPos ER (P.sndCell c k) 0 ∅ 0 ∗ atPos ER (P.rcvCell c k) 0 ∅ 0))
    ∗ bigSep Finset.univ fun k => cred (tallyAt (P.rcvCell c k) () P.N))

/-- A family over the call's own semaphores is one over the send ones and one over the receive ones. -/
theorem bigSep_osem {M : Type} [URA M] (Φ : SemLoc sig → sProp M) :
    (bigSep Finset.univ fun s => Φ (P.osem s))
      = iprop((bigSep Finset.univ fun k => Φ (.dma (P.snd k))) ∗ bigSep Finset.univ fun k => Φ (.dma (P.rcv k))) := by
  rw [bigSep_univ_sum]; rfl

theorem all2 {M : Type} [URA M] (A B : Fin 31 → sProp M) :
    iprop((bigSep Finset.univ A) ∗ bigSep Finset.univ B) = bigSepL all fun k => iprop(A k ∗ B k) := by
  rw [← bigSep_all, bigSep_sep']
theorem all4 {M : Type} [URA M] (A B C D : Fin 31 → sProp M) :
    iprop((bigSep Finset.univ A) ∗ (bigSep Finset.univ B) ∗ (bigSep Finset.univ C) ∗ bigSep Finset.univ D)
      = bigSepL all fun k => iprop(A k ∗ B k ∗ C k ∗ D k) := by
  rw [← bigSep_all, bigSep_sep', bigSep_sep', bigSep_sep']

theorem shared_own (c : Dev nD) : P.shared ER K ⊢ bigSep Finset.univ fun s => P.cinv ER K ((c : Thread nD τ), P.osem s) := by
  refine (P.shared_dev ER K c).trans ?_
  unfold devInv
  rw [P.bigSep_osem fun sm => P.cinv ER K ((c : Thread nD τ), sm), bigSep_sep']
  iintro ⟨-, -, H⟩
  iexact H

/-- The device's own cells open against their counters. -/
theorem open_start (c : Dev nD) : iprop(P.before ER K c ∗ Pipeline.ownSems0 P.osem c) ⊢ |={Set.univ}=> P.start ER K c := by
  unfold before start keep
  iintro ⟨⟨⟨#Hsh, Hat, Hcr, Htok, Hrc⟩, Hop⟩, Hsem⟩
  ihave #Hinv := (P.shared_own ER K c) $$ Hsh
  have h : iprop((bigSep Finset.univ fun s => iprop(P.cinv ER K ((c : Thread nD τ), P.osem s) ∗ openTok ER ((c : Thread nD τ), P.osem s)))
      ∗ bigSep Finset.univ fun s => semVal ((c : Thread nD τ), P.osem s) 0)
      ⊢ |={Set.univ}=> bigSep Finset.univ fun s => iprop(atPos ER ((c : Thread nD τ), P.osem s) 0 ∅ 0 ∗ reached ER ((c : Thread nD τ), P.osem s) 0) :=
    cells_open ER (P.rd ER) Finset.univ (fun s => ((c : Thread nD τ), P.osem s)) (fun s => K ((c : Thread nD τ), P.osem s)) (fun _ _ => Set.mem_univ _)
  rw [bigSep_sep', bigSep_sep', P.bigSep_osem fun sm => atPos ER ((c : Thread nD τ), sm) 0 ∅ 0,
    P.bigSep_osem fun sm => reached ER ((c : Thread nD τ), sm) 0] at h
  imod h $$ [Hop Hsem] with ⟨Ha, Hr⟩
  · isplitl [Hop]
    · isplitr; · iexact Hinv
      iexact Hop
    · unfold Pipeline.ownSems0; iexact Hsem
  imodintro
  isplitr [Ha Hr]
  · isplitr; · iexact Hsh
    isplitl [Hat]; · iexact Hat
    isplitl [Hcr]; · iexact Hcr
    isplitl [Htok]; · iexact Htok
    iexact Hrc
  unfold opened
  rw [bigSep_sep', bigSep_sep']
  isplitl [Hr]
  · iexact Hr
  · iexact Ha

/-- What a device owes for an exchange, over what it owes anyway. -/
def dues (c : Dev nD) (O : CellTallies nD τ sig Unit) : CellTallies nD τ sig Unit := P.sigDues c all (P.cpyDues c all O)

variable {Λ : Labels} {defs : Defs nD τ sig (Elt F) Λ} (𝒱 : Variants)

/-- Signals and barrier: the pieces the partners will write are handed over. -/
theorem wp_enter (c : Dev nD) (O : CellTallies nD τ sig Unit) (W : Waits sig Unit) (lev : sProp 𝕄)
    (hlev : lev ⊢ MayWait (c : Thread nD τ) (.reg P.bar) () (P.cpyDues c all O))
    (Kp : Prog (TpuEff nD τ sig (Elt F) Λ .tc) PUnit) (Q : PUnit → sProp 𝕄) :
    iprop(P.start ER K c ∗ lev ∗ owes (c : Thread nD τ) (P.dues c O) W ∗ (bigSep Finset.univ fun k => P.slot (pr c k) (rev k))
        ∗ ((P.mid ER K c ∗ ∃ W, owes (c : Thread nD τ) (P.cpyDues c all O) W) -∗ wp frame (wpE defs 𝒱 c none) Set.univ Kp Q))
      ⊢ wp frame (wpE defs 𝒱 c none) Set.univ (P.toExch.signals c all (.op (.semWait P.bar 31) fun _ => Kp)) Q := by
  unfold start keep toks mid dues
  rw [bigSep_sep']
  iintro ⟨⟨⟨#Hsh, Hat, Hcr, ⟨Htb, Htok⟩, Hrc⟩, #Hop, Hats⟩, Hlev, HO, Hs, Hk⟩
  iapply (P.wp_signals ER K 𝒱 c all (P.cpyDues c all O) W)
  isplitr; · iexact Hsh
  isplitr; · iexact Hop
  isplitl [HO]; · iexact HO
  isplitl [Htb Hs]
  · iapply (Entails.of_eq (all2 _ _))
    isplitl [Htb]; · iexact Htb
    iexact Hs
  iintro HO
  iapply (P.wp_barrier ER K 𝒱 c (P.cpyDues c all O) W lev hlev)
  isplitr; · iexact Hsh
  isplitl [Hlev]; · iexact Hlev
  isplitl [HO]; · iexact HO
  isplitl [Hcr]; · iexact Hcr
  isplitl [Hat]; · iexact Hat
  iintro ⟨HO, Hat, Hb⟩
  iapply Hk
  isplitr [HO]
  · isplitr; · iexact Hsh
    isplitr; · iexact Hop
    isplitl [Hat]; · iexact Hat
    isplitl [Hb]; · iexact Hb
    isplitl [Htok]; · iexact Htok
    isplitl [Hats]; · iexact Hats
    iexact Hrc
  iexact HO

/-- Copies and waits, then the cells closed: the sources come back, the own pieces come back rewritten, and every counter of
    the exchange is at zero. -/
theorem wp_swap (c : Dev nD) (O : CellTallies nD τ sig Unit) (lev : sProp 𝕄) [BI.Persistent lev]
    (hs : ∀ k, lev ⊢ MayWait (c : Thread nD τ) (.dma (P.snd k)) () O) (hr : ∀ k, lev ⊢ MayWait (c : Thread nD τ) (.dma (P.rcv k)) () O)
    (Kp : Prog (TpuEff nD τ sig (Elt F) Λ .tc) PUnit) (Q : PUnit → sProp 𝕄) :
    iprop(P.mid ER K c ∗ lev ∗ (∃ W, owes (c : Thread nD τ) (P.cpyDues c all O) W) ∗ (bigSep Finset.univ fun k => P.sndPay c k)
        ∗ (((∃ W, owes (c : Thread nD τ) O W) ∗ semVal (P.barCell c) 0 ∗ Pipeline.ownSems0 P.osem c
            ∗ (bigSep Finset.univ fun k => P.sndPay c k) ∗ bigSep Finset.univ fun k => P.rcvPay (pl c k) k)
          -∗ wp frame (wpE defs 𝒱 c none) Set.univ Kp Q))
      ⊢ wp frame (wpE defs 𝒱 c none) Set.univ (P.toExch.sends c all (P.toExch.waits c all Kp)) Q := by
  unfold mid
  iintro ⟨⟨#Hsh, #Hop, Hat, Hb, Htok, Hats, Hrc⟩, #Hlev, ⟨%W, HO⟩, Hsrc, Hk⟩
  iapply (P.wp_sends ER K 𝒱 c all O W)
  isplitr; · iexact Hsh
  isplitr; · iexact Hop
  isplitl [HO]; · iexact HO
  isplitl [Hsrc Hb Htok]
  · icases (Entails.of_eq (bigSep_sep' _ _ _)) $$ Htok with ⟨Ht1, Ht2⟩
    iapply (Entails.of_eq (all4 _ _ _ _))
    isplitl [Hsrc]; · iexact Hsrc
    isplitl [Hb]; · iapply (Entails.of_eq (bigSep_all _).symm); iexact Hb
    isplitl [Ht1]; · iexact Ht1
    iexact Ht2
  iintro ⟨HO, Hcs⟩
  iapply (P.wp_waits ER K 𝒱 c all O W lev hs hr)
  isplitr; · iexact Hsh
  isplitr; · iexact Hlev
  isplitl [HO]; · iexact HO
  isplitl [Hcs Hats Hrc]
  · icases (Entails.of_eq (bigSep_sep' _ _ _)) $$ Hats with ⟨Ha1, Ha2⟩
    iapply (Entails.of_eq (all4 _ _ _ _))
    isplitl [Hcs]; · iapply (Entails.of_eq (bigSep_all _).symm); iexact Hcs
    isplitl [Ha1]; · iexact Ha1
    isplitl [Hrc]; · iexact Hrc
    iexact Ha2
  iintro ⟨HO, Hall⟩
  ihave Hall := (Entails.of_eq (bigSep_all _).symm) $$ Hall
  icases (Entails.of_eq (bigSep_sep' _ _ _)) $$ Hall with ⟨Ha, Hall⟩
  icases (Entails.of_eq (bigSep_sep' _ _ _)) $$ Hall with ⟨Hs, Hr⟩
  ihave Ha := (Entails.of_eq (bigSep_sep' _ _ _)) $$ Ha
  ihave #Hinv := (P.shared_own ER K c) $$ Hsh
  ihave #Hinvb := (P.shared_bar ER K c) $$ Hsh
  have h : iprop(bigSep Finset.univ fun s => iprop(P.cinv ER K ((c : Thread nD τ), P.osem s) ∗ atPos ER ((c : Thread nD τ), P.osem s) 1 ∅ 0))
      ⊢ |={Set.univ}=> bigSep Finset.univ fun s => semVal ((c : Thread nD τ), P.osem s) 0 :=
    cells_close ER (P.rd ER) Finset.univ (fun s => ((c : Thread nD τ), P.osem s)) (fun s => K ((c : Thread nD τ), P.osem s)) (fun _ _ => Set.mem_univ _)
      (fun _ _ h => h) (fun _ => 1) (fun _ _ => P.duties_later ER _)
  rw [bigSep_sep', P.bigSep_osem fun sm => atPos ER ((c : Thread nD τ), sm) 1 ∅ 0] at h
  imod h $$ [Ha] with Hv
  · isplitr; · iexact Hinv
    iexact Ha
  imod (cell_close ER (P.rd ER) (g := P.barCell c) (κ := K (P.barCell c)) (Set.mem_univ _) (fun h => h) (P.duties_later ER _)) $$ [Hat] with Hvb
  · isplitr; · iexact Hinvb
    iexact Hat
  iapply Hk
  isplitl [HO]; · iexact HO
  isplitl [Hvb]; · iexact Hvb
  isplitl [Hv]; · unfold Pipeline.ownSems0; iexact Hv
  isplitl [Hs]; · iexact Hs
  iexact Hr

end Proto

end Cert.Ring

end
-- ==== Proof.Split.lean ====
/-
  A buffer cut into thirty-two pieces, one per device: a device's own piece beside those of its thirty-one partners.
-/
module

public import proofs.«01_k».proof.Proof.Proto
public import Idealize.ShloMosaic.Lib.Ring

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- Going round from `c` meets every other device once. -/
def others (c : Dev nD) : Fin 31 ↪ Dev nD := ⟨pr c, fun _ _ h => pr_inj c h⟩

theorem others_cover (c : Dev nD) : (Finset.univ : Finset (Dev nD)) = insert c (Finset.univ.map (others c)) := by
  symm; apply Finset.eq_univ_of_card
  rw [Finset.card_insert_of_notMem, Finset.card_map]
  · rfl
  · intro h
    obtain ⟨k, -, hk⟩ := Finset.mem_map.mp h
    exact pr_ne c k hk

/-- A family over the devices, seen from one of them. -/
theorem bigSep_ring {M : Type} [URA M] (c : Dev nD) (Φ : Dev nD → sProp M) :
    bigSep Finset.univ Φ = iprop(Φ c ∗ bigSep Finset.univ fun k => Φ (pr c k)) := by
  rw [others_cover c, bigSep_insert, bigSep_map]
  · rfl
  · intro h
    obtain ⟨k, -, hk⟩ := Finset.mem_map.mp h
    exact pr_ne c k hk

/-- Over the partners it does not matter which way round. -/
theorem bigSep_back {M : Type} [URA M] (c : Dev nD) (Φ : Dev nD → sProp M) :
    (bigSep Finset.univ fun k => Φ (pl c k)) = bigSep Finset.univ fun k => Φ (pr c k) := by
  rw [bigSep_univ_equiv flip (fun k => Φ (pl c k))]
  exact bigSep_congr fun k _ => congrArg Φ (pl_rev c k)

variable {sig : RefSig} {Val : EltTy → Type} {U : Type} [URA U]

local notation "𝕄" => MT nD τ sig Unit Val ℕ U ℕ

/-- A buffer held whole is the own piece and the partners' pieces. -/
theorem pointsTo_ring {ℓ : Loc nD τ sig} {q : PosShare TreeShare} (f : Buf Val ℓ) (I : Dev nD → Finset (Idx ℓ))
    (hd : ∀ b b', b ≠ b' → Disjoint (I b) (I b')) (hc : Finset.univ.biUnion I = Finset.univ) (c : Dev nD) :
    (ℓ ↦{q} f : sProp 𝕄) = iprop((ℓ ↦[I c]{q} f) ∗ bigSep Finset.univ fun k => ℓ ↦[I (pr c k)]{q} f) := by
  rw [Idealize.ShloMosaic.Ring.pointsTo_blocks I hd hc f, bigSep_ring c]

end Cert.Ring

end
-- ==== Proof.Body0.lean ====
/-
  The all-to-all's protocol and its body.

  Device `c` holds the columns block `X c` of the big matrix. It sends rows block `d` of it to every device `d`, which puts
  it in its columns block `c`; its own rows block it copies itself.
-/
module

public import proofs.«01_k».proof.Proof.Loop
public import proofs.«01_k».proof.Proof.Ghost
public import proofs.«01_k».proof.Proof.Split
public import Idealize.ShloMosaic.Lib.Pointwise.Index
public import Idealize.ShloMosaic.Lib.Pipeline.Value

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Ring (pr pl rev Proto Role)

variable {F : FTy → Type} [FloatOps F]

/-- The all-to-all's exchange at the buffers it runs on. -/
abbrev ex0 : Ring.Exch sig := exch0 (Memref.whole cc0_stg0_0) (Memref.whole cc0_stg1_0) cc0_scratch0 cc0_scratch1 rfl

/-- Rows block `d` of the input buffer. -/
def rows (d : Dev nD) : Finset S4096x128.Idx := (Rect.unit (s := S4096x128) ![128 * d.val, 0] S128x128.size (by rw [← k0_off1_eq]; exact k0_off1_inb d)).set
/-- Columns block `d` of the output buffer. -/
def cols (d : Dev nD) : Finset S128x4096.Idx := (Rect.unit (s := S128x4096) ![0, 128 * d.val] S128x128.size (by rw [← k0_off2_eq]; exact k0_off2_inb d)).set

theorem rows_disj : ∀ b b', b ≠ b' → Disjoint (rows b) (rows b') :=
  Idealize.ShloMosaic.Ring.lead_disjoint (s := S4096x128) (NB := 32) 0 128 (fun d => ![128 * d.val, 0]) S128x128.size _ (fun _ => rfl) rfl
theorem rows_cover : Finset.univ.biUnion rows = Finset.univ :=
  Idealize.ShloMosaic.Ring.lead_cover (s := S4096x128) (NB := 32) 0 128 (fun d => ![128 * d.val, 0]) S128x128.size _ (fun _ => rfl)
    (fun b a ha => by match a with | 0 => exact absurd rfl ha | 1 => rfl) rfl (fun a ha => by match a with | 0 => exact absurd rfl ha | 1 => rfl) rfl
theorem cols_disj : ∀ b b', b ≠ b' → Disjoint (cols b) (cols b') :=
  Idealize.ShloMosaic.Ring.lead_disjoint (s := S128x4096) (NB := 32) 1 128 (fun d => ![0, 128 * d.val]) S128x128.size _ (fun _ => rfl) rfl
theorem cols_cover : Finset.univ.biUnion cols = Finset.univ :=
  Idealize.ShloMosaic.Ring.lead_cover (s := S128x4096) (NB := 32) 1 128 (fun d => ![0, 128 * d.val]) S128x128.size _ (fun _ => rfl)
    (fun b a ha => by match a with | 0 => rfl | 1 => exact absurd rfl ha) rfl (fun a ha => by match a with | 0 => rfl | 1 => exact absurd rfl ha) rfl

/-- What device `c` has gathered: columns block `d` is its rows block of device `d`'s matrix. -/
def gather (X : Dev nD → S4096x128.Idx → Elt F .f32) (c : Dev nD) : S128x4096.Idx → Elt F .f32 :=
  fun i => X ⟨(i 1).val / 128, by have : (i 1).val < 4096 := (i 1).isLt; show _ < 32; omega⟩
    (ix2 ⟨128 * c.val + (i 0).val, by have : (i 0).val < 128 := (i 0).isLt; have : c.val < 32 := c.isLt; omega⟩
      ⟨(i 1).val % 128, Nat.mod_lt _ (by decide)⟩)

/-- One element of a gathered block. -/
theorem gather_at (X : Dev nD → S4096x128.Idx → Elt F .f32) (c d : Dev nD) (i : S128x4096.Idx) (j : S4096x128.Idx)
    (h0 : (j 0).val = 128 * c.val + (i 0).val) (h1 : (i 1).val = 128 * d.val + (j 1).val) : gather X c i = X d j := by
  have hj : (j 1).val < 128 := (j 1).isLt
  have e : (⟨(i 1).val / 128, by have : (i 1).val < 4096 := (i 1).isLt; show _ < 32; omega⟩ : Dev nD) = d := Fin.ext (by show (i 1).val / 128 = d.val; omega)
  unfold gather
  rw [e]
  congr 1
  funext a
  match a with
  | 0 => exact Fin.ext h0.symm
  | 1 => exact Fin.ext (by show (i 1).val % 128 = (j 1).val; omega)

theorem dst0_set (c : Dev nD) (k : Fin 31) : (ex0.dst c k).view.set = cols c := by
  show ((View.whole cc0_stg1_0).slice (Rect.unit (s := S128x4096) (k0_off3 c) S128x128.size (k0_off3_inb c))).set = _
  rw [View.set_slice_whole]
  unfold cols; simp only [k0_off3_eq]
theorem off4_pr (c : Dev nD) (k : Fin 31) : k0_off4 c (wd k) = ![128 * (pr c k).val, 0] := by
  rw [k0_off4_eq c k]
  have : (c.val + k.val + 1) % 32 = (pr c k).val := by show _ = (c.val + (1 + k.val)) % 32; congr 1; omega
  rw [this]
theorem src0_set (c : Dev nD) (k : Fin 31) : (ex0.src c k).view.set = rows (pr c k) := by
  show ((View.whole cc0_stg0_0).slice (Rect.unit (s := S4096x128) (k0_off4 c (wd k)) S128x128.size (k0_off4_inb c k))).set = _
  rw [View.set_slice_whole]
  unfold rows; simp only [off4_pr]

/-- A copy puts the sender's block where the gathered block has it. -/
theorem land0 (X : Dev nD → S4096x128.Idx → Elt F .f32) (c : Dev nD) (k : Fin 31) (x : S128x128.Idx) :
    X c ((Rect.unit (s := S4096x128) (k0_off4 c (wd k)) S128x128.size (k0_off4_inb c k)).emb x)
      = gather X (pr c k) ((Rect.unit (s := S128x4096) (k0_off3 c) S128x128.size (k0_off3_inb c)).emb x) := by
  symm
  apply gather_at
  · simp only [Rect.emb_apply, Rect.off_unit, Rect.stride_unit, off4_pr, k0_off3_eq]
    simp
  · simp only [Rect.emb_apply, Rect.off_unit, Rect.stride_unit, off4_pr, k0_off3_eq]
    simp

/-- What a semaphore is in the all-to-all. -/
def role0 : SemLoc sig → Option Role
  | .reg s => if s.val = 0 then some .bar else none
  | .dma s => if h : 2 ≤ s.val ∧ s.val < 33 then some (.snd ⟨s.val - 2, by omega⟩)
      else if h : 33 ≤ s.val ∧ s.val < 64 then some (.rcv ⟨s.val - 33, by omega⟩) else none

set_option maxRecDepth 100000 in
/-- The all-to-all's protocol. -/
def proto0 (X : Dev nD → S4096x128.Idx → Elt F .f32) : Proto sig F where
  toExch := ex0
  role := role0
  role_bar := rfl
  role_snd k := by revert k; decide
  role_rcv k := by revert k; decide
  dev_eq c k := Fin.ext (devW_eq c k)
  q _ := fullShare
  S c _ := X c
  T c k := gather X (pr c k)
  land c k fd i hi := by
    obtain ⟨x, -, rfl⟩ := Finset.mem_map.mp hi
    rw [View.write_emb_of_mem _ _ (Finset.mem_univ _)]
    exact land0 X c k x
  N := (ex0.dst 0 0).view.dmaCredit
  N_pos := View.dmaCredit_pos _ (by decide)
  amt_dst c k := rfl
  amt_src c k := rfl

section Body

variable {U : Type} [URA U]

local notation "𝕄" => MT nD τ sig Unit (Elt F) ℕ U ℕ

variable (X : Dev nD → S4096x128.Idx → Elt F .f32)

/-- The input buffer block by block. -/
theorem in_ring {d : Dev nD} (f : S4096x128.Idx → Elt F .f32) (c : Dev nD) :
    ((((d : Thread nD τ).loc cc0_stg0_0) ↦{fullShare} f) : sProp 𝕄)
      = iprop((((d : Thread nD τ).loc cc0_stg0_0) ↦[rows c]{fullShare} f)
          ∗ bigSep Finset.univ fun k => ((d : Thread nD τ).loc cc0_stg0_0) ↦[rows (pr c k)]{fullShare} f) :=
  Ring.pointsTo_ring (ℓ := (d : Thread nD τ).loc cc0_stg0_0) f rows rows_disj rows_cover c
/-- The output buffer block by block. -/
theorem out_ring {d : Dev nD} (f : S128x4096.Idx → Elt F .f32) (c : Dev nD) :
    ((((d : Thread nD τ).loc cc0_stg1_0) ↦{fullShare} f) : sProp 𝕄)
      = iprop((((d : Thread nD τ).loc cc0_stg1_0) ↦[cols c]{fullShare} f)
          ∗ bigSep Finset.univ fun k => ((d : Thread nD τ).loc cc0_stg1_0) ↦[cols (pr c k)]{fullShare} f) :=
  Ring.pointsTo_ring (ℓ := (d : Thread nD τ).loc cc0_stg1_0) f cols cols_disj cols_cover c

/-- What a device hands a partner is its own columns block of that partner. -/
theorem slot0_intro (d : Dev nD) (k : Fin 31) (e : Dev nD) (he : pr d k = e) (f : Buf (Elt F) ((e : Thread nD τ).loc cc0_stg1_0)) :
    ((((e : Thread nD τ).loc cc0_stg1_0) ↦[cols d]{fullShare} f) : sProp 𝕄) ⊢ (proto0 X).slot d k := by
  subst he
  unfold Proto.slot
  iintro H
  iexists f
  rw [show ((proto0 X).dst d k).view.set = cols d from dst0_set d k]
  iexact H

/-- What a partner's copy gives back is that columns block, gathered. -/
theorem rcv0_elim (d : Dev nD) (k : Fin 31) (e : Dev nD) (he : pr d k = e) :
    (proto0 X).rcvPay d k ⊢ ((((e : Thread nD τ).loc cc0_stg1_0) ↦[cols d]{fullShare} gather X e) : sProp 𝕄) := by
  subst he
  unfold Proto.rcvPay
  rw [show ((proto0 X).dst d k).view.set = cols d from dst0_set d k]
  exact .rfl

/-- The source of a copy is a rows block. -/
theorem snd0_eq (c : Dev nD) (k : Fin 31) :
    ((proto0 X).sndPay c k : sProp 𝕄) = ((((c : Thread nD τ).loc cc0_stg0_0) ↦[rows (pr c k)]{fullShare} X c) : sProp 𝕄) := by
  unfold Proto.sndPay
  rw [show ((proto0 X).src c k).view.set = rows (pr c k) from src0_set c k]
  rfl

/-- The own block copied is the own block gathered. -/
theorem own0 (c : Dev nD) (f : Buf (Elt F) ((c : Thread nD τ).loc cc0_stg1_0)) : ∀ i ∈ cols c,
    ((Memref.whole cc0_stg1_0).access (Rect.unit (s := S128x4096) (k0_off2 c) S128x128.size (k0_off2_inb c))).write (Elt F) f
      (k0_pay1 (((Memref.whole cc0_stg0_0).access (Rect.unit (s := S4096x128) (k0_off1 c) S128x128.size (k0_off1_inb c))).read (Elt F) (X c))) Finset.univ i
      = gather X c i := by
  intro i hi
  have hs : ((Memref.whole cc0_stg1_0).access (Rect.unit (s := S128x4096) (k0_off2 c) S128x128.size (k0_off2_inb c))).set = cols c := by
    show ((View.whole cc0_stg1_0).slice _).set = _
    rw [View.set_slice_whole]; unfold cols; simp only [k0_off2_eq]
  rw [← hs] at hi
  obtain ⟨x, -, rfl⟩ := Finset.mem_map.mp hi
  rw [View.write_emb_of_mem _ _ (Finset.mem_univ _)]
  unfold k0_pay1
  rw [shapeCast_self]
  show X c ((Rect.unit (s := S4096x128) (k0_off1 c) S128x128.size (k0_off1_inb c)).emb x)
    = gather X c ((Rect.unit (s := S128x4096) (k0_off2 c) S128x128.size (k0_off2_inb c)).emb x)
  symm
  apply gather_at
  · simp only [Rect.emb_apply, Rect.off_unit, Rect.stride_unit, k0_off1_eq, k0_off2_eq]
    simp
  · simp only [Rect.emb_apply, Rect.off_unit, Rect.stride_unit, k0_off1_eq, k0_off2_eq]
    simp

variable (ER : Emb (URounds (GSem nD τ sig) (Fin 31)) (MT nD τ sig Unit (Elt F) ℕ U ℕ)) [ER.LandsIn (upEmb : UEmb _ (MT nD τ sig Unit (Elt F) ℕ U ℕ))]
variable (K : GSem nD τ sig → ℕ) (𝒱 : Variants)

/-- The all-to-all on one device: from its matrix block and any output buffer, the gathered rows. -/
theorem body0 (c : Dev nD) (O : CellTallies nD τ sig Unit) (W : Waits sig Unit) (lev : sProp 𝕄) [BI.Persistent lev]
    (hb : lev ⊢ MayWait (c : Thread nD τ) (.reg (proto0 X).bar) () ((proto0 X).cpyDues c Ring.all O))
    (hs : ∀ k, lev ⊢ MayWait (c : Thread nD τ) (.dma ((proto0 X).snd k)) () O)
    (hr : ∀ k, lev ⊢ MayWait (c : Thread nD τ) (.dma ((proto0 X).rcv k)) () O)
    (f : Buf (Elt F) ((c : Thread nD τ).loc cc0_stg1_0)) (Q : PUnit → sProp 𝕄) :
    iprop((proto0 X).start ER K c ∗ lev ∗ owes (c : Thread nD τ) ((proto0 X).dues c O) W
        ∗ (((c : Thread nD τ).loc cc0_stg0_0) ↦{fullShare} X c) ∗ (((c : Thread nD τ).loc cc0_stg1_0) ↦{fullShare} f)
        ∗ (((∃ W, owes (c : Thread nD τ) O W) ∗ semVal ((proto0 X).barCell c) 0 ∗ Pipeline.ownSems0 (proto0 X).osem c
            ∗ (((c : Thread nD τ).loc cc0_stg0_0) ↦{fullShare} X c) ∗ (((c : Thread nD τ).loc cc0_stg1_0) ↦{fullShare} gather X c))
          -∗ Q ⟨⟩))
      ⊢ wp frame (wpE defs₀ 𝒱 c none) Set.univ
          (cc0_body (F := F) (Memref.whole cc0_stg0_0) (Memref.isWhole_whole _) (Memref.whole cc0_stg1_0) (Memref.isWhole_whole _) cc0_scratch0 cc0_scratch1) Q := by
  rw [cc0_body_loop _ _ _ _ _ _ rfl, wp_deviceId]
  rw [in_ring (X c) c, out_ring f c, out_ring (gather X c) c]
  iintro ⟨Hst, #Hlev, HO, ⟨Hx, Hxs⟩, ⟨Hy, Hys⟩, Hk⟩
  iapply ((proto0 X).wp_enter ER K 𝒱 c O W lev hb)
  isplitl [Hst]; · iexact Hst
  isplitr; · iexact Hlev
  isplitl [HO]; · iexact HO
  isplitl [Hys]
  · have h : ((bigSep Finset.univ fun k => ((c : Thread nD τ).loc cc0_stg1_0) ↦[cols (pr c k)]{fullShare} f) : sProp 𝕄)
        ⊢ bigSep Finset.univ fun k => (proto0 X).slot (pr c k) (rev k) :=
      bigSep_mono fun k _ => slot0_intro X (pr c k) (rev k) c (Ring.pr_pr c k) f
    iapply h; iexact Hys
  iintro ⟨Hmid, HO⟩
  iapply (wp_load_rect 𝒱 (c : Thread nD τ) none Set.univ (S := rows c) (by
    show ((View.whole cc0_stg0_0).slice _).set ⊆ _
    rw [View.set_slice_whole]; unfold rows; simp only [k0_off1_eq]; exact subset_rfl)) $$ [Hx]
  · iexact Hx
  iintro Hx
  iapply (wp_load_rect 𝒱 (c : Thread nD τ) none Set.univ (S := cols c) (by
    show ((View.whole cc0_stg1_0).slice _).set ⊆ _
    rw [View.set_slice_whole]; unfold cols; simp only [k0_off2_eq]; exact subset_rfl)) $$ [Hy]
  · iexact Hy
  iintro Hy
  iapply (wp_store 𝒱 (c : Thread nD τ) none Set.univ (S := cols c) (by
    show ((View.whole cc0_stg1_0).slice _).set ⊆ _
    rw [View.set_slice_whole]; unfold cols; simp only [k0_off2_eq]; exact subset_rfl)) $$ [Hy]
  · iexact Hy
  iintro Hy
  ihave Hy := (Entails.of_eq (pointsTo_congr (own0 X c f))) $$ Hy
  have hsnd : ((bigSep Finset.univ fun k => ((c : Thread nD τ).loc cc0_stg0_0) ↦[rows (pr c k)]{fullShare} X c) : sProp 𝕄)
      = bigSep Finset.univ fun k => (proto0 X).sndPay c k := bigSep_congr fun k _ => (snd0_eq X c k).symm
  iapply ((proto0 X).wp_swap ER K 𝒱 c O lev hs hr)
  isplitl [Hmid]; · iexact Hmid
  isplitr; · iexact Hlev
  isplitl [HO]; · iexact HO
  isplitl [Hxs]; · iapply (Entails.of_eq hsnd); iexact Hxs
  iintro ⟨HO, Hb, Hsem, Hs, Hr⟩
  rw [wp_ret]
  imodintro
  iapply Hk
  isplitl [HO]; · iexact HO
  isplitl [Hb]; · iexact Hb
  isplitl [Hsem]; · iexact Hsem
  isplitl [Hx Hs]
  · isplitl [Hx]; · iexact Hx
    iapply (Entails.of_eq hsnd.symm); iexact Hs
  isplitl [Hy]; · iexact Hy
  have h : (bigSep Finset.univ fun k => (proto0 X).rcvPay (pl c k) k)
      ⊢ ((bigSep Finset.univ fun k => ((c : Thread nD τ).loc cc0_stg1_0) ↦[cols (pl c k)]{fullShare} gather X c) : sProp 𝕄) :=
    bigSep_mono fun k _ => rcv0_elim X (pl c k) k c (Ring.pr_pl c k)
  rw [Ring.bigSep_back c fun d => ((((c : Thread nD τ).loc cc0_stg1_0) ↦[cols d]{fullShare} gather X c) : sProp 𝕄)] at h
  iapply h; iexact Hr

end Body

end Cert.KernelIdeal

end
-- ==== Proof.Body2.lean ====
/-
  The exchange of the maxima and the body that quantises with them.

  Every device puts the maximum of its block in slot 0 of a buffer of thirty-two slots, all lanes of the slot alike, and
  sends that slot to every partner `k`, where it lands in slot `k + 1`. Thirty-one copies read slot 0 at once, each at a
  share of its own.
-/
module

public import proofs.«01_k».proof.Proof.Loop
public import proofs.«01_k».proof.Proof.Ghost
public import proofs.«01_k».proof.Proof.Split
public import Idealize.ShloMosaic.Lib.Pointwise.Index
public import Idealize.ShloMosaic.Lib.Pipeline.Value
public import Idealize.ShloMosaic.Lib.ShareLeaves

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Ring (pr pl rev Proto Role)

variable {F : FTy → Type} [FloatOps F]

/-- The exchange of the maxima at the buffer it runs on. -/
abbrev ex2 : Ring.Exch sig := exch2 (Memref.whole cc2_scratch0) cc2_scratch1 cc2_scratch2 rfl

/-- Slot `s` of the buffer of maxima, as a rectangle and as elements. -/
abbrev slotR (s : Fin 32) : Rect S32x8x128 := Rect.unit (s := S32x8x128) ![s.val, 0, 0] S1x8x128.size (inb_slot s)
def slots (s : Fin 32) : Finset S32x8x128.Idx := (slotR s).set

theorem slots_disj : ∀ b b', b ≠ b' → Disjoint (slots b) (slots b') :=
  Idealize.ShloMosaic.Ring.lead_disjoint (s := S32x8x128) (NB := 32) 0 1 (fun d => ![d.val, 0, 0]) S1x8x128.size _ (fun d => (Nat.one_mul _).symm) rfl
theorem slots_cover : Finset.univ.biUnion slots = Finset.univ :=
  Idealize.ShloMosaic.Ring.lead_cover (s := S32x8x128) (NB := 32) 0 1 (fun d => ![d.val, 0, 0]) S1x8x128.size _ (fun d => (Nat.one_mul _).symm)
    (fun b a ha => by match a with | 0 => exact absurd rfl ha | 1 => rfl | 2 => rfl) rfl
    (fun a ha => by match a with | 0 => exact absurd rfl ha | 1 => rfl | 2 => rfl) rfl

/-- Whose maximum device `c` finds in slot `s`. -/
def whose (c : Dev nD) (s : ℕ) : Dev nD := ⟨(c.val + (32 - s)) % 32, Nat.mod_lt _ (by decide)⟩

/-- The buffer of maxima on device `c` once everything has arrived, where `A d` is what device `d` puts in its slot. -/
def maxima (A : Dev nD → S1x8x128.Idx → Elt F .f32) (c : Dev nD) : S32x8x128.Idx → Elt F .f32 :=
  fun i => A (whose c (i 0).val) (ix3 0 (i 1) (i 2))

/-- A slot of the buffer of maxima. -/
theorem maxima_at (A : Dev nD → S1x8x128.Idx → Elt F .f32) (c : Dev nD) (s : Fin 32) (x : S1x8x128.Idx) :
    maxima A c ((slotR s).emb x) = A (whose c s.val) x := by
  have h0 : (((slotR s).emb x : S32x8x128.Idx) 0).val = s.val := by
    have : (x 0).val < 1 := (x 0).isLt
    simp only [Rect.emb_apply, Rect.off_unit, Rect.stride_unit]
    simp; omega
  unfold maxima
  rw [h0]
  congr 1
  funext a
  match a with
  | 0 => exact Fin.ext (by have : (x 0).val < 1 := (x 0).isLt; show 0 = (x 0).val; omega)
  | 1 => exact Fin.ext (by show 0 + 1 * (x 1).val = (x 1).val; omega)
  | 2 => exact Fin.ext (by show 0 + 1 * (x 2).val = (x 2).val; omega)

theorem whose_self (c : Dev nD) : whose c 0 = c := by
  apply Fin.ext; have : c.val < 32 := c.isLt; simp only [whose]; omega
theorem whose_pr (c : Dev nD) (k : Fin 31) : whose (pr c k) (1 + k.val) = c := by
  apply Fin.ext; have : c.val < 32 := c.isLt; have := k.isLt; simp only [whose, pr]; omega

theorem slot_set (s : Fin 32) : (slotM (Memref.whole cc2_scratch0) s).view.set = slots s := by
  show (((View.whole cc2_scratch0).slice (slotR s)).reshape _ _).set = _
  rw [View.set_reshape, View.set_slice_whole]; rfl

/-- What a semaphore is in the exchange of the maxima. -/
def role2 : SemLoc sig → Option Role
  | .reg s => if s.val = 1 then some .bar else none
  | .dma s => if h : 71 ≤ s.val ∧ s.val < 102 then some (.snd ⟨s.val - 71, by omega⟩)
      else if h : 102 ≤ s.val ∧ s.val < 133 then some (.rcv ⟨s.val - 102, by omega⟩) else none

/-- The share of slot 0 that goes with copy `k`; share 0 stays. -/
def shr (d : Fin (2 ^ 5)) : PosShare TreeShare := ShareLeaves.leaf 5 fullShare d

set_option maxRecDepth 100000 in
/-- The protocol of the exchange of the maxima. -/
def proto2 (A : Dev nD → S1x8x128.Idx → Elt F .f32) : Proto sig F where
  toExch := ex2
  role := role2
  role_bar := rfl
  role_snd k := by revert k; decide
  role_rcv k := by revert k; decide
  dev_eq c k := Fin.ext (devW_eq c k)
  q k := shr (pr 0 k)
  S c _ := maxima A c
  T c k := maxima A (pr c k)
  land c k fd i hi := by
    obtain ⟨x, -, rfl⟩ := Finset.mem_map.mp hi
    rw [View.write_emb_of_mem _ _ (Finset.mem_univ _)]
    refine Eq.trans (b := A c (Shape.reshapeEquiv (squeezes_S1x8x128_S8x128).numel_eq x)) ?_ ?_
    · have h := maxima_at A c 0 (Shape.reshapeEquiv (squeezes_S1x8x128_S8x128).numel_eq x)
      rw [show whose c (0 : Fin 32).val = c from whose_self c] at h
      exact h
    · have h := maxima_at A (pr c k) ⟨1 + k.val, by omega⟩ (Shape.reshapeEquiv (squeezes_S1x8x128_S8x128).numel_eq x)
      rw [show whose (pr c k) (⟨1 + k.val, by omega⟩ : Fin 32).val = c from whose_pr c k] at h
      exact h.symm
  N := (ex2.dst 0 0).view.dmaCredit
  N_pos := View.dmaCredit_pos _ (by decide)
  amt_dst c k := rfl
  amt_src c k := rfl

/-- What device `c` ends with, from its own block and the maxima. -/
def quant (Y : Dev nD → S128x8192.Idx → Elt F .f32) (c : Dev nD) : S128x8192.Idx → Elt F .f32 :=
  k2_pay1 (k2_pay3 (maxima (fun d => k2_pay2 (Y d)) c)) (k2_pay4 (maxima (fun d => k2_pay2 (Y d)) c) (Y c))

section Body

variable {U : Type} [URA U]

local notation "𝕄" => MT nD τ sig Unit (Elt F) ℕ U ℕ

variable (A : Dev nD → S1x8x128.Idx → Elt F .f32)

theorem pr_zero (k : Fin 31) : (pr 0 k : Dev nD) = (⟨1 + k.val, by omega⟩ : Fin 32) := by
  apply Fin.ext
  have := k.isLt
  show (0 + (1 + k.val)) % 32 = 1 + k.val
  omega

/-- The buffer of maxima slot by slot. -/
theorem max_ring {d : Dev nD} (f : S32x8x128.Idx → Elt F .f32) :
    ((((d : Thread nD τ).loc cc2_scratch0) ↦{fullShare} f) : sProp 𝕄)
      = iprop((((d : Thread nD τ).loc cc2_scratch0) ↦[slots 0]{fullShare} f)
          ∗ bigSep Finset.univ fun k => ((d : Thread nD τ).loc cc2_scratch0) ↦[slots (pr 0 k)]{fullShare} f) :=
  Ring.pointsTo_ring (ℓ := (d : Thread nD τ).loc cc2_scratch0) f slots slots_disj slots_cover 0
/-- Slot 0 share by share. -/
theorem slot_shares {d : Dev nD} (f : S32x8x128.Idx → Elt F .f32) :
    ((((d : Thread nD τ).loc cc2_scratch0) ↦[slots 0]{fullShare} f) : sProp 𝕄)
      = iprop((((d : Thread nD τ).loc cc2_scratch0) ↦[slots 0]{shr 0} f)
          ∗ bigSep Finset.univ fun k => ((d : Thread nD τ).loc cc2_scratch0) ↦[slots 0]{shr (pr 0 k)} f) := by
  rw [ShareLeaves.pointsTo_leaves (ℓ := (d : Thread nD τ).loc cc2_scratch0) (slots 0) f 5 fullShare]
  exact Ring.bigSep_ring (0 : Dev nD) fun i => ((d : Thread nD τ).loc cc2_scratch0) ↦[slots 0]{shr i} f

theorem dst2_set (d : Dev nD) (k : Fin 31) : ((proto2 A).dst d k).view.set = slots (pr 0 k) := by
  rw [pr_zero]; exact slot_set _
theorem src2_set (d : Dev nD) (k : Fin 31) : ((proto2 A).src d k).view.set = slots 0 := slot_set 0

/-- What a device hands a partner is its own slot for that partner. -/
theorem slot2_intro (d : Dev nD) (k : Fin 31) (e : Dev nD) (he : pr d k = e) (f : Buf (Elt F) ((e : Thread nD τ).loc cc2_scratch0)) :
    ((((e : Thread nD τ).loc cc2_scratch0) ↦[slots (pr 0 k)]{fullShare} f) : sProp 𝕄) ⊢ (proto2 A).slot d k := by
  subst he
  unfold Proto.slot
  iintro H
  iexists f
  rw [show ((proto2 A).dst d k).view.set = slots (pr 0 k) from dst2_set A d k]
  iexact H

/-- What a partner's copy gives back is that slot with the partner's maximum. -/
theorem rcv2_elim (d : Dev nD) (k : Fin 31) (e : Dev nD) (he : pr d k = e) :
    (proto2 A).rcvPay d k ⊢ ((((e : Thread nD τ).loc cc2_scratch0) ↦[slots (pr 0 k)]{fullShare} maxima A e) : sProp 𝕄) := by
  subst he
  unfold Proto.rcvPay
  rw [show ((proto2 A).dst d k).view.set = slots (pr 0 k) from dst2_set A d k]
  exact .rfl

/-- The source of a copy is slot 0. -/
theorem snd2_eq (c : Dev nD) (k : Fin 31) :
    ((proto2 A).sndPay c k : sProp 𝕄) = ((((c : Thread nD τ).loc cc2_scratch0) ↦[slots 0]{shr (pr 0 k)} maxima A c) : sProp 𝕄) := by
  unfold Proto.sndPay
  rw [show ((proto2 A).src c k).view.set = slots 0 from src2_set A c k]
  rfl

/-- Slot 0 as the body addresses it. -/
abbrev own2 : Rect S32x8x128 := Rect.unit (s := S32x8x128) ![0, 0, 0] S1x8x128.size inb_S32x8x128_S1x8x128_0_0_0

theorem own2_set : ((Memref.whole cc2_scratch0).access own2).set = slots 0 := by
  show ((View.whole cc2_scratch0).slice _).set = _
  rw [View.set_slice_whole]; rfl

/-- The own maximum stored is slot 0 of the buffer of maxima. -/
theorem own2_eq (c : Dev nD) (f : Buf (Elt F) ((c : Thread nD τ).loc cc2_scratch0)) : ∀ i ∈ slots 0,
    ((Memref.whole cc2_scratch0).access own2).write (Elt F) f (A c) Finset.univ i = maxima A c i := by
  intro i hi
  rw [← own2_set] at hi
  obtain ⟨x, -, rfl⟩ := Finset.mem_map.mp hi
  rw [View.write_emb_of_mem _ _ (Finset.mem_univ _)]
  have h := maxima_at A c 0 x
  rw [show whose c (0 : Fin 32).val = c from whose_self c] at h
  exact h.symm

end Body

section Whole

variable {U : Type} [URA U]

local notation "𝕄" => MT nD τ sig Unit (Elt F) ℕ U ℕ

variable (Y : Dev nD → S128x8192.Idx → Elt F .f32)

/-- The maximum a device contributes. -/
abbrev amax (d : Dev nD) : S1x8x128.Idx → Elt F .f32 := k2_pay2 (Y d)

variable (ER : Emb (URounds (GSem nD τ sig) (Fin 31)) (MT nD τ sig Unit (Elt F) ℕ U ℕ)) [ER.LandsIn (upEmb : UEmb _ (MT nD τ sig Unit (Elt F) ℕ U ℕ))]
variable (K : GSem nD τ sig → ℕ) (𝒱 : Variants)

abbrev allY : Rect S128x8192 := Rect.unit (s := S128x8192) ![0, 0] S128x8192.size inb_S128x8192_S128x8192_0_0
abbrev allM : Rect S32x8x128 := Rect.unit (s := S32x8x128) ![0, 0, 0] S32x8x128.size inb_S32x8x128_S32x8x128_0_0_0

/-- The quantising body on one device: from its block, any output buffer and any buffer of maxima, the quantised block. -/
theorem body2 (c : Dev nD) (O : CellTallies nD τ sig Unit) (W : Waits sig Unit) (lev : sProp 𝕄) [BI.Persistent lev]
    (hb : lev ⊢ MayWait (c : Thread nD τ) (.reg (proto2 (amax Y)).bar) () ((proto2 (amax Y)).cpyDues c Ring.all O))
    (hs : ∀ k, lev ⊢ MayWait (c : Thread nD τ) (.dma ((proto2 (amax Y)).snd k)) () O)
    (hr : ∀ k, lev ⊢ MayWait (c : Thread nD τ) (.dma ((proto2 (amax Y)).rcv k)) () O)
    (f : Buf (Elt F) ((c : Thread nD τ).loc cc2_stg1_0)) (g : Buf (Elt F) ((c : Thread nD τ).loc cc2_scratch0)) (Q : PUnit → sProp 𝕄) :
    iprop((proto2 (amax Y)).start ER K c ∗ lev ∗ owes (c : Thread nD τ) ((proto2 (amax Y)).dues c O) W
        ∗ (((c : Thread nD τ).loc cc2_stg0_0) ↦{fullShare} Y c) ∗ (((c : Thread nD τ).loc cc2_stg1_0) ↦{fullShare} f)
        ∗ (((c : Thread nD τ).loc cc2_scratch0) ↦{fullShare} g)
        ∗ (((∃ W, owes (c : Thread nD τ) O W) ∗ semVal ((proto2 (amax Y)).barCell c) 0 ∗ Pipeline.ownSems0 (proto2 (amax Y)).osem c
            ∗ (((c : Thread nD τ).loc cc2_stg0_0) ↦{fullShare} Y c) ∗ (((c : Thread nD τ).loc cc2_stg1_0) ↦{fullShare} quant Y c)
            ∗ (∃ g, ((c : Thread nD τ).loc cc2_scratch0) ↦{fullShare} g))
          -∗ Q ⟨⟩))
      ⊢ wp frame (wpE defs₀ 𝒱 c none) Set.univ
          (cc2_body (F := F) (Memref.whole cc2_stg0_0) (Memref.isWhole_whole _) (Memref.whole cc2_stg1_0) (Memref.isWhole_whole _)
            (Memref.whole cc2_scratch0) (Memref.isWhole_whole _) cc2_scratch1 cc2_scratch2) Q := by
  have z2 : (![0, 0] : Fin 2 → ℕ) = fun _ => 0 := by funext a; match a with | 0 => rfl | 1 => rfl
  have z3 : (![0, 0, 0] : Fin 3 → ℕ) = fun _ => 0 := by funext a; match a with | 0 => rfl | 1 => rfl | 2 => rfl
  have eY : ((Memref.whole cc2_stg0_0).access allY).read (Elt F) (Y c) = Y c :=
    Memref.read_access_unit_zero (Elt F) cc2_stg0_0 z2 inb_S128x8192_S128x8192_0_0 (Y c)
  have eM : ((Memref.whole cc2_scratch0).access allM).read (Elt F) (maxima (amax Y) c) = maxima (amax Y) c :=
    Memref.read_access_unit_zero (Elt F) cc2_scratch0 z3 inb_S32x8x128_S32x8x128_0_0_0 (maxima (amax Y) c)
  have eW : ((Memref.whole cc2_stg1_0).access allY).write (Elt F) f
      (k2_pay1 (k2_pay3 (maxima (amax Y) c)) (k2_pay4 (maxima (amax Y) c) (Y c))) Finset.univ = quant Y c :=
    Memref.write_access_unit_zero_univ (Elt F) cc2_stg1_0 z2 inb_S128x8192_S128x8192_0_0 f (quant Y c)
  rw [cc2_body_loop _ _ _ _ _ _ _ _ rfl, wp_deviceId]
  rw [max_ring g]
  iintro ⟨Hst, #Hlev, HO, Hx, Hy, ⟨Hm, Hms⟩, Hk⟩
  iapply (wp_load_rect 𝒱 (c : Thread nD τ) none Set.univ (S := Finset.univ) (Finset.subset_univ _)) $$ [Hx]
  · iexact Hx
  iintro Hx
  rw [eY]
  iapply (wp_load_rect 𝒱 (c : Thread nD τ) none Set.univ (S := slots 0) own2_set.subset) $$ [Hm]
  · iexact Hm
  iintro Hm
  iapply (wp_store 𝒱 (c : Thread nD τ) none Set.univ (S := slots 0) own2_set.subset) $$ [Hm]
  · iexact Hm
  iintro Hm
  ihave Hm := (Entails.of_eq (pointsTo_congr (own2_eq (amax Y) c g))) $$ Hm
  iapply ((proto2 (amax Y)).wp_enter ER K 𝒱 c O W lev hb)
  isplitl [Hst]; · iexact Hst
  isplitr; · iexact Hlev
  isplitl [HO]; · iexact HO
  isplitl [Hms]
  · have h : ((bigSep Finset.univ fun k => ((c : Thread nD τ).loc cc2_scratch0) ↦[slots (pr 0 k)]{fullShare} g) : sProp 𝕄)
        ⊢ bigSep Finset.univ fun k => (proto2 (amax Y)).slot (pr c k) (rev k) := by
      rw [bigSep_univ_equiv Ring.flip (fun k => ((((c : Thread nD τ).loc cc2_scratch0) ↦[slots (pr 0 k)]{fullShare} g) : sProp 𝕄))]
      exact bigSep_mono fun k _ => slot2_intro (amax Y) (pr c k) (rev k) c (Ring.pr_pr c k) g
    iapply h; iexact Hms
  iintro ⟨Hmid, HO⟩
  ihave Hm := (Entails.of_eq (slot_shares (d := c) (maxima (amax Y) c))) $$ Hm
  icases Hm with ⟨Hm, Hms⟩
  have hsnd : ((bigSep Finset.univ fun k => ((c : Thread nD τ).loc cc2_scratch0) ↦[slots 0]{shr (pr 0 k)} maxima (amax Y) c) : sProp 𝕄)
      = bigSep Finset.univ fun k => (proto2 (amax Y)).sndPay c k := bigSep_congr fun k _ => (snd2_eq (amax Y) c k).symm
  iapply ((proto2 (amax Y)).wp_swap ER K 𝒱 c O lev hs hr)
  isplitl [Hmid]; · iexact Hmid
  isplitr; · iexact Hlev
  isplitl [HO]; · iexact HO
  isplitl [Hms]; · iapply (Entails.of_eq hsnd); iexact Hms
  iintro ⟨HO, Hb, Hsem, Hs, Hr⟩
  ihave Hs := (Entails.of_eq hsnd.symm) $$ Hs
  have h : (bigSep Finset.univ fun k => (proto2 (amax Y)).rcvPay (pl c k) k)
      ⊢ ((bigSep Finset.univ fun k => ((c : Thread nD τ).loc cc2_scratch0) ↦[slots (pr 0 k)]{fullShare} maxima (amax Y) c) : sProp 𝕄) :=
    bigSep_mono fun k _ => rcv2_elim (amax Y) (pl c k) k c (Ring.pr_pl c k)
  ihave Hr := h $$ Hr
  ihave Hm := (Entails.of_eq (slot_shares (d := c) (maxima (amax Y) c)).symm) $$ [Hm Hs]
  · isplitl [Hm]; · iexact Hm
    iexact Hs
  ihave Hm := (Entails.of_eq (max_ring (d := c) (maxima (amax Y) c)).symm) $$ [Hm Hr]
  · isplitl [Hm]; · iexact Hm
    iexact Hr
  iapply (wp_load_rect 𝒱 (c : Thread nD τ) none Set.univ (S := Finset.univ) (Finset.subset_univ _)) $$ [Hm]
  · iexact Hm
  iintro Hm
  iapply (wp_load_rect 𝒱 (c : Thread nD τ) none Set.univ (S := Finset.univ) (Finset.subset_univ _)) $$ [Hx]
  · iexact Hx
  iintro Hx
  rw [eM, eY]
  iapply (wp_load_rect 𝒱 (c : Thread nD τ) none Set.univ (S := Finset.univ) (Finset.subset_univ _)) $$ [Hy]
  · iexact Hy
  iintro Hy
  iapply (wp_store 𝒱 (c : Thread nD τ) none Set.univ (S := Finset.univ) (Finset.subset_univ _)) $$ [Hy]
  · iexact Hy
  iintro Hy
  rw [eW]
  rw [wp_ret]
  imodintro
  iapply Hk
  isplitl [HO]; · iexact HO
  isplitl [Hb]; · iexact Hb
  isplitl [Hsem]; · iexact Hsem
  isplitl [Hx]; · iexact Hx
  isplitl [Hy]; · iexact Hy
  iexists _; iexact Hm

end Whole

end Cert.KernelIdeal

end
-- ==== Proof.Fund.lean ====
/-
  What an exchange is given at launch: which cells a device owes and what the devices' dues amount to on each device, the
  cells' invariants, and the rights to pay, each dealt to the device that pays.
-/
module

public import proofs.«01_k».proof.Proof.Ghost
public import Idealize.ShloMosaic.Lib.Pipeline.Launch

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Two families over all indices commute. -/
theorem swap {M : Type} [URA M] {I J : Type} [Fintype I] [Fintype J] [DecidableEq I] [DecidableEq J] (Φ : I → J → sProp M) :
    (bigSep Finset.univ fun i => bigSep Finset.univ fun j => Φ i j) = bigSep Finset.univ fun j => bigSep Finset.univ fun i => Φ i j := by
  rw [← bigSep_univ_prod (fun p : I × J => Φ p.1 p.2), ← bigSep_univ_prod (fun p : J × I => Φ p.2 p.1),
    bigSep_univ_equiv (Equiv.prodComm J I) (fun p : I × J => Φ p.1 p.2)]
  rfl

namespace Proto

variable {sig : RefSig} {F : FTy → Type} (P : Proto sig F)
variable {U : Type} [URA U]

local notation "𝕄" => MT nD τ sig Unit (Elt F) ℕ U ℕ

variable (ER : Emb (URounds (GSem nD τ sig) (Fin 31)) (MT nD τ sig Unit (Elt F) ℕ U ℕ)) [ER.LandsIn (upEmb : UEmb _ (MT nD τ sig Unit (Elt F) ℕ U ℕ))]
variable (K : GSem nD τ sig → ℕ)

/-! ## The dues -/

theorem cpyDues_eq (c : Dev nD) (l : List (Fin 31)) (O : CellTallies nD τ sig Unit) :
    P.cpyDues c l O = O + (l.map fun k => tallyAt (P.rcvCell (pr c k) k) () P.N).sum := by
  induction l with
  | nil => simp [cpyDues]
  | cons k l ih => rw [cpyDues, ih, List.map_cons, List.sum_cons, add_assoc, add_comm (List.sum _)]
theorem sigDues_eq (c : Dev nD) (l : List (Fin 31)) (O : CellTallies nD τ sig Unit) :
    P.sigDues c l O = O + (l.map fun k => tallyAt (P.barCell (pr c k)) () 1).sum := by
  induction l with
  | nil => simp [sigDues]
  | cons k l ih => rw [sigDues, ih, List.map_cons, List.sum_cons, add_assoc, add_comm (List.sum _)]

theorem sum_all {A : Type} [AddCommMonoid A] (f : Fin 31 → A) : (all.map f).sum = ∑ k, f k := by
  rw [← List.sum_toFinset f all_nodup, all_toFinset]

theorem copies_eq (c : Dev nD) (O : CellTallies nD τ sig Unit) :
    P.cpyDues c all O = O + ∑ k, tallyAt (P.rcvCell (pr c k) k) () P.N := by
  rw [cpyDues_eq, sum_all fun k => tallyAt (P.rcvCell (pr c k) k) () P.N]
theorem dues_eq (c : Dev nD) (O : CellTallies nD τ sig Unit) :
    P.dues c O = O + ((∑ k, tallyAt (P.rcvCell (pr c k) k) () P.N) + ∑ k, tallyAt (P.barCell (pr c k)) () 1) := by
  unfold dues
  rw [sigDues_eq, copies_eq, sum_all fun k => tallyAt (P.barCell (pr c k)) () 1, add_assoc]

/-- What a device owes for the exchange alone. -/
def due (c : Dev nD) : CellTallies nD τ sig Unit :=
  (∑ k, tallyAt (P.rcvCell (pr c k) k) () P.N) + ∑ k, tallyAt (P.barCell (pr c k)) () 1

theorem dues_due (c : Dev nD) (O : CellTallies nD τ sig Unit) : P.dues c O = O + P.due c := P.dues_eq c O

theorem sum_pos {T : Fin 31 → CellTallies nD τ sig Unit} {g : GSem nD τ sig} {u : Unit} (h : 0 < (∑ k, T k) g u) : ∃ k, 0 < T k g u := by
  by_contra hn
  rw [Finset.sum_apply, Finsupp.finsetSum_apply, Finset.sum_eq_zero fun k _ => by
    by_contra h0; exact hn ⟨k, Nat.pos_of_ne_zero h0⟩] at h
  exact absurd h (Nat.lt_irrefl 0)

/-- A device that has signalled owes receive cells, besides what it owes anyway. -/
theorem copies_pos {c : Dev nD} {O : CellTallies nD τ sig Unit} {g : GSem nD τ sig} {u : Unit} (h : 0 < P.cpyDues c all O g u) :
    0 < O g u ∨ ∃ d k, g = P.rcvCell d k := by
  rw [copies_eq] at h
  rcases Pipeline.add_pos_cases h with h | h
  · exact .inl h
  · obtain ⟨k, h⟩ := sum_pos h
    exact .inr ⟨_, k, (Pipeline.tallyAt_pos h).1⟩
theorem due_pos {c : Dev nD} {g : GSem nD τ sig} {u : Unit} (h : 0 < P.due c g u) :
    (∃ d, g = P.barCell d) ∨ ∃ d k, g = P.rcvCell d k := by
  unfold due at h
  rcases Pipeline.add_pos_cases h with h | h
  · obtain ⟨k, h⟩ := sum_pos h
    exact .inr ⟨_, k, (Pipeline.tallyAt_pos h).1⟩
  · obtain ⟨k, h⟩ := sum_pos h
    exact .inl ⟨_, (Pipeline.tallyAt_pos h).1⟩

/-- The launch credit under every device's dues, on one device: its partners' signals and copies. -/
theorem due_cred (c : Dev nD) : (Pipeline.launchCred P.due c : sProp 𝕄)
    ⊢ iprop(cred (tallyAt (P.barCell c) () 31) ∗ bigSep Finset.univ fun k => cred (tallyAt (P.rcvCell c k) () P.N)) := by
  have e : (Pipeline.launchCred P.due c : sProp 𝕄)
      = iprop((bigSep Finset.univ fun k => Pipeline.launchCred (fun d => tallyAt (P.rcvCell (pr d k) k) () P.N) c)
        ∗ bigSep Finset.univ fun k => Pipeline.launchCred (fun d => tallyAt (P.barCell (pr d k)) () 1) c) := by
    unfold due
    rw [Pipeline.launchCred_add, Pipeline.launchCred_sum, Pipeline.launchCred_sum]
  have h1 : (bigSep Finset.univ fun k => (Pipeline.launchCred (fun d => tallyAt (P.rcvCell (pr d k) k) () P.N) c : sProp 𝕄))
      ⊢ bigSep Finset.univ fun k => cred (tallyAt (P.rcvCell c k) () P.N) :=
    bigSep_mono fun k _ => Pipeline.launchCred_tallyAt (.dma (P.rcv k)) (pr · k) (pl · k) (pr_pl · k) (pl_pr · k) () P.N c
  have h2 : (bigSep Finset.univ fun k : Fin 31 => (Pipeline.launchCred (fun d => tallyAt (P.barCell (pr d k)) () 1) c : sProp 𝕄))
      ⊢ cred (tallyAt (P.barCell c) () 31) := by
    refine (show _ ⊢ bigSep Finset.univ fun _ : Fin 31 => (cred (tallyAt (P.barCell c) () 1) : sProp 𝕄) from
      bigSep_mono fun k _ => Pipeline.launchCred_tallyAt (.reg P.bar) (pr · k) (pl · k) (pr_pl · k) (pl_pr · k) () 1 c).trans (Entails.of_eq ?_)
    rw [← Pipeline.cred_finsetSum]
    refine congrArg cred ?_
    rw [Finset.sum_const, Finset.card_univ, Fintype.card_fin]
    unfold tallyAt
    funext g
    rw [Pi.smul_apply]
    by_cases hg : g = P.barCell c
    · subst hg; unfold tallyOn; rw [Pi.single_eq_same, Pi.single_eq_same, Finsupp.smul_single]; rfl
    · unfold tallyOn; rw [Pi.single_eq_of_ne hg, Pi.single_eq_of_ne hg, smul_zero]
  rw [e]
  iintro ⟨H1, H2⟩
  isplitl [H2]
  · iapply h2; iexact H2
  · iapply h1; iexact H1

/-! ## The cells -/

theorem osem_inj : Function.Injective P.osem := by
  have key : ∀ s, P.role (P.osem s) = some (Sum.elim Role.snd Role.rcv s) := fun s => by
    rcases s with k | k
    · exact P.role_snd k
    · exact P.role_rcv k
  intro a b h
  have h' := congrArg P.role h
  rw [key, key] at h'
  rcases a with a | a <;> rcases b with b | b <;> simp_all
theorem osem_ne_bar (s : Fin 31 ⊕ Fin 31) : P.osem s ≠ .reg P.bar := by
  intro h
  have h' := congrArg P.role h
  rw [P.role_bar] at h'
  rcases s with k | k
  · rw [show P.osem (.inl k) = .dma (P.snd k) from rfl, P.role_snd] at h'; simp at h'
  · rw [show P.osem (.inr k) = .dma (P.rcv k) from rfl, P.role_rcv] at h'; simp at h'

def barEmb : Dev nD ↪ GSem nD τ sig := ⟨fun c => P.barCell c, fun _ _ h => congrArg (fun g : GSem nD τ sig => g.1.1) h⟩
def ownEmb : Dev nD × (Fin 31 ⊕ Fin 31) ↪ GSem nD τ sig :=
  ⟨fun ck => ((ck.1 : Thread nD τ), P.osem ck.2), fun _ _ h =>
    Prod.ext (congrArg (fun g : GSem nD τ sig => g.1.1) h) (P.osem_inj (congrArg Prod.snd h))⟩
/-- The barriers, -/
def bars : Finset (GSem nD τ sig) := Finset.univ.map P.barEmb
/-- the send and receive cells, -/
def owns : Finset (GSem nD τ sig) := Finset.univ.map P.ownEmb

theorem disjoint_cells : Disjoint P.bars P.owns := by
  rw [Finset.disjoint_left]
  rintro g h₁ h₂
  obtain ⟨c, -, rfl⟩ := Finset.mem_map.mp h₁
  obtain ⟨ck, -, h⟩ := Finset.mem_map.mp h₂
  exact P.osem_ne_bar ck.2 (congrArg Prod.snd h)

/-- A duty: a barrier's for each partner, and one of each send and receive cell. -/
def tcell : Fin 31 ⊕ (Fin 31 ⊕ Fin 31) → SemLoc sig := Sum.elim (fun _ => .reg P.bar) P.osem
def tduty : Fin 31 ⊕ (Fin 31 ⊕ Fin 31) → Fin 31 := Sum.elim id fun _ => 0
theorem tok_inj {a b : Fin 31 ⊕ (Fin 31 ⊕ Fin 31)} (h1 : P.tcell a = P.tcell b) (h2 : tduty a = tduty b) : a = b := by
  rcases a with a | a <;> rcases b with b | b
  · exact congrArg Sum.inl h2
  · exact absurd h1.symm (P.osem_ne_bar b)
  · exact absurd h1 (P.osem_ne_bar a)
  · exact congrArg Sum.inr (P.osem_inj h1)
/-- and all the duties. -/
def duties : Finset (GSem nD τ sig × ℕ × Fin 31) :=
  Finset.univ.map ⟨fun ck : Dev nD × (Fin 31 ⊕ (Fin 31 ⊕ Fin 31)) => (((ck.1 : Thread nD τ), P.tcell ck.2), 0, tduty ck.2), fun _ _ h =>
    Prod.ext (congrArg (fun t : GSem nD τ sig × ℕ × Fin 31 => t.1.1.1) h)
      (P.tok_inj (congrArg (fun t : GSem nD τ sig × ℕ × Fin 31 => t.1.2) h) (congrArg (fun t : GSem nD τ sig × ℕ × Fin 31 => t.2.2) h))⟩

/-- What the exchange is funded with. -/
def fuel : URounds (GSem nD τ sig) (Fin 31) := launchOf P.bars P.owns P.duties

omit [ER.LandsIn (upEmb : UEmb _ (MT nD τ sig Unit (Elt F) ℕ U ℕ))] in
/-- Duties listed by the cell's device, then dealt to the device that pays them. -/
theorem deal_toks : (bigSep P.duties fun x => (dutyTok ER x.1 x.2.1 x.2.2 : sProp 𝕄)) = bigSep Finset.univ fun c : Dev nD => P.toks ER c := by
  have h1 : (bigSep P.duties fun x => (dutyTok ER x.1 x.2.1 x.2.2 : sProp 𝕄))
      = bigSep Finset.univ fun c : Dev nD => iprop((bigSep Finset.univ fun k => dutyTok ER (P.barCell c) 0 k)
          ∗ ((bigSep Finset.univ fun k => dutyTok ER (P.sndCell c k) 0 0) ∗ bigSep Finset.univ fun k => dutyTok ER (P.rcvCell c k) 0 0)) := by
    unfold duties; rw [bigSep_map, bigSep_univ_prod]
    exact bigSep_congr fun c _ => by rw [bigSep_univ_sum, bigSep_univ_sum]; rfl
  have h2 : (bigSep Finset.univ fun c : Dev nD => bigSep Finset.univ fun k => (dutyTok ER (P.barCell c) 0 k : sProp 𝕄))
      = bigSep Finset.univ fun c : Dev nD => bigSep Finset.univ fun k => dutyTok ER (P.barCell (pr c k)) 0 (rev k) := by
    rw [swap]
    rw [swap (fun (c : Dev nD) (k : Fin 31) => (dutyTok ER (P.barCell (pr c k)) 0 (rev k) : sProp 𝕄))]
    rw [bigSep_univ_equiv flip (fun k : Fin 31 => bigSep Finset.univ fun c : Dev nD => (dutyTok ER (P.barCell c) 0 k : sProp 𝕄))]
    exact bigSep_congr fun k _ => bigSep_univ_equiv (ring k) (fun c : Dev nD => (dutyTok ER (P.barCell c) 0 (flip k) : sProp 𝕄))
  have h3 : (bigSep Finset.univ fun c : Dev nD => bigSep Finset.univ fun k => (dutyTok ER (P.rcvCell c k) 0 0 : sProp 𝕄))
      = bigSep Finset.univ fun c : Dev nD => bigSep Finset.univ fun k => dutyTok ER (P.rcvCell (pr c k) k) 0 0 := by
    rw [swap, swap (fun (c : Dev nD) (k : Fin 31) => (dutyTok ER (P.rcvCell (pr c k) k) 0 0 : sProp 𝕄))]
    exact bigSep_congr fun k _ => bigSep_univ_equiv (ring k) (fun c : Dev nD => (dutyTok ER (P.rcvCell c k) 0 0 : sProp 𝕄))
  rw [h1, bigSep_sep', bigSep_sep', h2, h3, ← bigSep_sep', ← bigSep_sep']
  exact bigSep_congr fun c _ => by unfold toks; rw [bigSep_sep', bigSep_sep']

/-- What a device is dealt when the exchange is funded. -/
def dealt (c : Dev nD) : sProp 𝕄 :=
  iprop(P.shared ER K ∗ atPos ER (P.barCell c) 0 ∅ 0 ∗ P.toks ER c ∗ bigSep Finset.univ fun s => openTok ER ((c : Thread nD τ), P.osem s))

/-- With its launch credit, that is what the call starts from. -/
theorem dealt_before (c : Dev nD) : iprop(P.dealt ER K c ∗ Pipeline.launchCred P.due c) ⊢ P.before ER K c := by
  unfold dealt before keep
  iintro ⟨⟨#Hsh, Hat, Ht, Ho⟩, Hc⟩
  ihave Hc := (P.due_cred (F := F) (U := U) c) $$ Hc
  icases Hc with ⟨Hb, Hr⟩
  isplitr [Ho]
  · isplitr; · iexact Hsh
    isplitl [Hat]; · iexact Hat
    isplitl [Hb]; · iexact Hb
    isplitl [Ht]; · iexact Ht
    iexact Hr
  iexact Ho

/-- Funding. -/
theorem fund : iprop((bigSep Finset.univ fun c : Dev nD => semVal (P.barCell c) 0) ∗ BI.own (ER P.fuel))
    ⊢ |={Set.univ}=> ∃ K, bigSep Finset.univ fun c : Dev nD => P.dealt ER K c := by
  have hv : (bigSep Finset.univ fun c : Dev nD => (semVal (P.barCell c) 0 : sProp 𝕄)) ⊢ bigSep P.bars fun g => (semVal g 0 : sProp 𝕄) :=
    Entails.of_eq (bigSep_map (s := Finset.univ) P.barEmb (Φ := fun g : GSem nD τ sig => (semVal g 0 : sProp 𝕄))).symm
  have hat : (bigSep P.bars fun g => (atPos ER g 0 ∅ 0 : sProp 𝕄)) ⊢ bigSep Finset.univ fun c : Dev nD => (atPos ER (P.barCell c) 0 ∅ 0 : sProp 𝕄) :=
    Entails.of_eq (bigSep_map (s := Finset.univ) P.barEmb (Φ := fun g : GSem nD τ sig => (atPos ER g 0 ∅ 0 : sProp 𝕄)))
  have hre : (bigSep P.bars fun g => (reached ER g 0 : sProp 𝕄)) ⊢ bigSep Finset.univ fun c : Dev nD => (reached ER (P.barCell c) 0 : sProp 𝕄) :=
    Entails.of_eq (bigSep_map (s := Finset.univ) P.barEmb (Φ := fun g : GSem nD τ sig => (reached ER g 0 : sProp 𝕄)))
  have hop : (bigSep P.owns fun g => (openTok ER g : sProp 𝕄)) ⊢ bigSep Finset.univ fun c : Dev nD => bigSep Finset.univ fun s => openTok ER ((c : Thread nD τ), P.osem s) :=
    Entails.of_eq (by unfold Proto.owns; rw [bigSep_map, bigSep_univ_prod]; rfl)
  have hinv (κ : GSem nD τ sig → ℕ) : (bigSep (P.bars ∪ P.owns) fun g => (cellInv ER (P.rd ER) (κ g) g : sProp 𝕄))
      ⊢ iprop((bigSep Finset.univ fun c : Dev nD => P.cinv ER κ (P.barCell c))
        ∗ bigSep Finset.univ fun c : Dev nD => bigSep Finset.univ fun k => iprop(P.cinv ER κ (P.sndCell c k) ∗ P.cinv ER κ (P.rcvCell c k))) :=
    Entails.of_eq (by
      rw [bigSep_union P.disjoint_cells]
      unfold bars Proto.owns
      rw [bigSep_map, bigSep_map, bigSep_univ_prod]
      refine congrArg (fun X => iprop(_ ∗ X)) (bigSep_congr fun c _ => ?_)
      exact (P.bigSep_osem fun sm => P.cinv ER κ ((c : Thread nD τ), sm)).trans (bigSep_sep' _ _ _).symm)
  iintro ⟨Hv, Hu⟩
  imod (Rounds.fund_launch ER (P.rd ER) P.disjoint_cells (fun _ _ h => h) P.duties) $$ [Hv Hu] with ⟨%κ, -, Hinv, Hr, Hat, Ho, Ht⟩
  · isplitl [Hv]
    · iapply hv $$ Hv
    · unfold fuel; iexact Hu
  imodintro
  iexists κ
  ihave Hinv := (hinv κ) $$ Hinv
  icases Hinv with ⟨Hi1, Hi2⟩
  ihave Hr := hre $$ Hr
  ihave #Hsh : P.shared ER κ $$ [Hi1 Hi2 Hr]
  · unfold shared devInv
    rw [bigSep_sep', bigSep_sep']
    isplitl [Hi1]; · iexact Hi1
    isplitl [Hr]; · iexact Hr
    iexact Hi2
  iapply (bigSep_with_persistent (R := P.shared ER κ)
    (Φ := fun c : Dev nD => iprop(atPos ER (P.barCell c) 0 ∅ 0 ∗ P.toks ER c ∗ bigSep Finset.univ fun s => openTok ER ((c : Thread nD τ), P.osem s)))
    fun c _ => by unfold dealt; iintro H; iexact H)
  isplitr; · iexact Hsh
  rw [bigSep_sep', bigSep_sep']
  isplitl [Hat]; · iapply hat; iexact Hat
  isplitl [Ht]; · iapply (Entails.of_eq (P.deal_toks ER)); iexact Ht
  iapply hop; iexact Ho

end Proto

end Cert.Ring

end
-- ==== Proof.Setup.lean ====
/-
  The whole program's set-up: what each buffer holds from call to call, what the devices owe, and the levels that keep the
  waits of the two exchanges and of the pipelines apart.
-/
module

public import proofs.«01_k».proof.Proof.Body0
public import proofs.«01_k».proof.Proof.Body2
public import proofs.«01_k».proof.Proof.Fund
public import proofs.«01_k».proof.Proof.Gen.KernelIdeal.Launch
public import proofs.«01_k».proof.Proof.Gen.KernelIdeal.Points
public import Idealize.ShloMosaic.Lib.Pipeline.RegionTalk

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cert.Ring (pr pl rev Proto Role)

/-! ## The ghost state: the pipelines' and one part for each exchange -/

abbrev UX : Type := URounds (GSem nD τ sig) (Fin 31)
abbrev UU : Type := UR sig nD τ × (UX × UX)

variable {F : FTy → Type} [FloatOps F]

local notation "𝕄" => MT nD τ sig Unit (Elt F) ℕ UU ℕ

def EP : Emb (UR sig nD τ) (MT nD τ sig Unit (Elt F) ℕ UU ℕ) := embL
def EX : Emb (UX × UX) (MT nD τ sig Unit (Elt F) ℕ UU ℕ) := embR
def E0 : Emb UX (MT nD τ sig Unit (Elt F) ℕ UU ℕ) := (Emb.inl : Emb UX (UX × UX)).trans EX
def E2 : Emb UX (MT nD τ sig Unit (Elt F) ℕ UU ℕ) := (Emb.inr : Emb UX (UX × UX)).trans EX
instance EP_landsIn : (EP (F := F)).LandsIn (upEmb : UEmb _ (MT nD τ sig Unit (Elt F) ℕ UU ℕ)) := by unfold EP; infer_instance
instance EX_landsIn : (EX (F := F)).LandsIn (upEmb : UEmb _ (MT nD τ sig Unit (Elt F) ℕ UU ℕ)) := by unfold EX; infer_instance
instance E0_landsIn : (E0 (F := F)).LandsIn (upEmb : UEmb _ (MT nD τ sig Unit (Elt F) ℕ UU ℕ)) := by unfold E0; infer_instance
instance E2_landsIn : (E2 (F := F)).LandsIn (upEmb : UEmb _ (MT nD τ sig Unit (Elt F) ℕ UU ℕ)) := by unfold E2; infer_instance

abbrev 𝒱₀ : Variants := Variants.none

/-! ## What the buffers hold -/

/-- Columns block `t` of the weights. -/
def tile (t : Fin 16) (w : S4096x8192.Idx → Elt F .f32) : S4096x512.Idx → Elt F .f32 :=
  fun i => w (ix2 ⟨(i 0).val, by have : (i 0).val < 4096 := (i 0).isLt; omega⟩
    ⟨512 * t.val + (i 1).val, by have : (i 1).val < 512 := (i 1).isLt; omega⟩)

/-- The product's rows with the negative entries made zero, one columns block after the other. -/
def gemm (x : S128x4096.Idx → Elt F .f32) (w : S4096x8192.Idx → Elt F .f32) : S128x8192.Idx → Elt F .f32 :=
  fun i => k1_pay1 x (tile ⟨(i 1).val / 512, by have : (i 1).val < 8192 := (i 1).isLt; omega⟩ w)
    (ix2 ⟨(i 0).val, by have : (i 0).val < 128 := (i 0).isLt; omega⟩ ⟨(i 1).val % 512, Nat.mod_lt _ (by decide)⟩)

variable (m : (ℓ : Loc nD τ sig) → Buf (Elt F) ℓ)

/-- Device `d`'s columns block of the big matrix, -/
def X (d : Dev nD) : S4096x128.Idx → Elt F .f32 := m ((d : Thread nD τ).loc main_arg0)
/-- its copy of the weights, -/
def Wt (d : Dev nD) : S4096x8192.Idx → Elt F .f32 := m ((d : Thread nD τ).loc main_arg1)
/-- its rows of the big matrix, -/
def G1 (d : Dev nD) : S128x4096.Idx → Elt F .f32 := gather (X m) d
/-- its rows of the product, -/
def G2 (d : Dev nD) : S128x8192.Idx → Elt F .f32 := gemm (G1 m d) (Wt m d)
/-- and its rows of the result. -/
def G3 (d : Dev nD) : S128x8192.Idx → Elt F .f32 := quant (G2 m) d

def W0 (c : Dev nD) : Valuation τ sig (Elt F) := fun b => m (c, b)
def W1 (c : Dev nD) : Valuation τ sig (Elt F) := Function.update (W0 m c) (Proc.devRef .tc main_v1) (G1 m c)
def W2 (c : Dev nD) : Valuation τ sig (Elt F) := Function.update (W1 m c) (Proc.devRef .tc main_v2) (G2 m c)
def W3 (c : Dev nD) : Valuation τ sig (Elt F) := Function.update (W2 m c) (Proc.devRef .tc main_v3) (G3 m c)

theorem W1_v1 (c : Dev nD) : W1 m c (Proc.devRef .tc main_v1) = G1 m c := Function.update_self ..
theorem W2_v2 (c : Dev nD) : W2 m c (Proc.devRef .tc main_v2) = G2 m c := Function.update_self ..
theorem W3_v3 (c : Dev nD) : W3 m c (Proc.devRef .tc main_v3) = G3 m c := Function.update_self ..
theorem W1_ne (c : Dev nD) {b : DevRef τ sig} (h : b ≠ Proc.devRef .tc main_v1) : W1 m c b = W0 m c b := Function.update_of_ne h ..
theorem W2_ne (c : Dev nD) {b : DevRef τ sig} (h : b ≠ Proc.devRef .tc main_v2) : W2 m c b = W1 m c b := Function.update_of_ne h ..
theorem W3_ne (c : Dev nD) {b : DevRef τ sig} (h : b ≠ Proc.devRef .tc main_v3) : W3 m c b = W2 m c b := Function.update_of_ne h ..
theorem W1_of (c : Dev nD) (r : Ref sig .tc) (h : r ≠ main_v1) : W1 m c (Proc.devRef .tc r) = W0 m c (Proc.devRef .tc r) :=
  W1_ne m c (StableHlo.devRef_ne_of_ne h)
theorem W2_of (c : Dev nD) (r : Ref sig .tc) (h : r ≠ main_v2) : W2 m c (Proc.devRef .tc r) = W1 m c (Proc.devRef .tc r) :=
  W2_ne m c (StableHlo.devRef_ne_of_ne h)
theorem W3_of (c : Dev nD) (r : Ref sig .tc) (h : r ≠ main_v3) : W3 m c (Proc.devRef .tc r) = W2 m c (Proc.devRef .tc r) :=
  W3_ne m c (StableHlo.devRef_ne_of_ne h)

/-! ## The two exchanges -/

abbrev P0 : Proto sig F := proto0 (X m)
abbrev P2 : Proto sig F := proto2 (amax (G2 m))

/-! ## Levels -/

/-- Pipelines and send cells below the first barrier, below the first receive cells, below the second barrier, below the
    second receive cells. -/
def lvS : SemLoc sig → ℕ
  | .reg s => if s = 0 then 1 else 3
  | .dma s => if s.val < 33 then 0 else if s.val < 64 then 2 else if s.val < 102 then 0 else 4
def lv (g : GSem nD τ sig) (_ : Unit) : ℕ := lvS g.2
def L (g : GSem nD τ sig) : Finset Unit := if g.1.2 = .tc then {()} else ∅

theorem L_of_ne (g : GSem nD τ sig) (h : g.1.2 ≠ .tc) : L g = ∅ := if_neg h
theorem mem_L (c : Dev nD) (sm : SemLoc sig) : () ∈ L ((c : Thread nD τ), sm) := by
  unfold L; rw [if_pos rfl]; exact Finset.mem_singleton_self _

theorem lv_bar0 : lvS (.reg ex0.bar) = 1 := by decide
theorem lv_bar2 : lvS (.reg ex2.bar) = 3 := by decide
theorem lv_snd0 : ∀ k, lvS (.dma (ex0.snd k)) = 0 := by decide
theorem lv_snd2 : ∀ k, lvS (.dma (ex2.snd k)) = 0 := by decide
theorem lv_rcv0 : ∀ k, lvS (.dma (ex0.rcv k)) = 2 := by decide
theorem lv_rcv2 : ∀ k, lvS (.dma (ex2.rcv k)) = 4 := by decide

theorem due0_pos {c : Dev nD} {g : GSem nD τ sig} {u : Unit} (h : 0 < (P0 m).due c g u) : u ∈ L g ∧ 0 < lv g u := by
  cases u
  rcases (P0 m).due_pos h with ⟨d, rfl⟩ | ⟨d, k, rfl⟩
  · exact ⟨mem_L _ _, by show 0 < lvS (.reg ex0.bar); rw [lv_bar0]; decide⟩
  · exact ⟨mem_L _ _, by show 0 < lvS (.dma (ex0.rcv k)); rw [lv_rcv0]; decide⟩
theorem due2_pos {c : Dev nD} {g : GSem nD τ sig} {u : Unit} (h : 0 < (P2 m).due c g u) : u ∈ L g ∧ 2 < lv g u := by
  cases u
  rcases (P2 m).due_pos h with ⟨d, rfl⟩ | ⟨d, k, rfl⟩
  · exact ⟨mem_L _ _, by show 2 < lvS (.reg ex2.bar); rw [lv_bar2]; decide⟩
  · exact ⟨mem_L _ _, by show 2 < lvS (.dma (ex2.rcv k)); rw [lv_rcv2]; decide⟩

theorem wait0_bar (c : Dev nD) : (levAts L lv : sProp 𝕄) ⊢ MayWait (c : Thread nD τ) (.reg (P0 m).bar) () ((P0 m).cpyDues c Ring.all ((P2 m).due c)) :=
  Pipeline.mayWait_of_levAts (mem_L _ _) fun g u h => by
    rw [show lv ((c : Thread nD τ), .reg (P0 m).bar) () = 1 from lv_bar0]
    rcases (P0 m).copies_pos h with h | ⟨d, k, rfl⟩
    · have := due2_pos m h; exact ⟨this.1, by omega⟩
    · cases u; exact ⟨mem_L _ _, by show 1 < lvS (.dma (ex0.rcv k)); rw [lv_rcv0]; decide⟩
theorem wait0_snd (c : Dev nD) (k : Fin 31) : (levAts L lv : sProp 𝕄) ⊢ MayWait (c : Thread nD τ) (.dma ((P0 m).snd k)) () ((P2 m).due c) :=
  Pipeline.mayWait_of_levAts (mem_L _ _) fun g u h => by
    rw [show lv ((c : Thread nD τ), .dma ((P0 m).snd k)) () = 0 from lv_snd0 k]
    have := due2_pos m h; exact ⟨this.1, by omega⟩
theorem wait0_rcv (c : Dev nD) (k : Fin 31) : (levAts L lv : sProp 𝕄) ⊢ MayWait (c : Thread nD τ) (.dma ((P0 m).rcv k)) () ((P2 m).due c) :=
  Pipeline.mayWait_of_levAts (mem_L _ _) fun g u h => by
    rw [show lv ((c : Thread nD τ), .dma ((P0 m).rcv k)) () = 2 from lv_rcv0 k]
    have := due2_pos m h; exact ⟨this.1, by omega⟩
theorem wait2_bar (c : Dev nD) : (levAts L lv : sProp 𝕄) ⊢ MayWait (c : Thread nD τ) (.reg (P2 m).bar) () ((P2 m).cpyDues c Ring.all 0) :=
  Pipeline.mayWait_of_levAts (mem_L _ _) fun g u h => by
    rw [show lv ((c : Thread nD τ), .reg (P2 m).bar) () = 3 from lv_bar2]
    rcases (P2 m).copies_pos h with h | ⟨d, k, rfl⟩
    · exact absurd h (Nat.lt_irrefl 0)
    · cases u; exact ⟨mem_L _ _, by show 3 < lvS (.dma (ex2.rcv k)); rw [lv_rcv2]; decide⟩
theorem wait_none (c : Dev nD) (sm : SemLoc sig) : (levAts L lv : sProp 𝕄) ⊢ MayWait (c : Thread nD τ) sm () (0 : CellTallies nD τ sig Unit) :=
  Pipeline.mayWait_of_levAts (mem_L _ _) fun g u h => absurd h (Nat.lt_irrefl 0)

/-! ## A pipeline's tallies, into and out of its own spelling -/

theorem owesAt_intro {cfg : Pipeline.Cfg sig Λ₀} {c : Dev nD} (dat : Pipeline.Dat τ (Elt F) Unit ℕ UU ℕ cfg c) (t : Fin (cfg.N + 1))
    (O : CellTallies nD τ sig Unit) (h0 : dat.owed t = O) (hr : dat.recorded t = Set.univ) :
    (iprop(∃ W, owes (c : Thread nD τ) O W) : sProp 𝕄) ⊢ dat.owesAt () t := by
  unfold Pipeline.Dat.owesAt Pipeline.owesWithin Pipeline.Dat.bound; rw [h0, hr]
  iintro ⟨%W, HO⟩; iexists W; isplitr; · ipureintro; exact fun _ _ => Or.inl trivial
  iexact HO
theorem owesAt_elim {cfg : Pipeline.Cfg sig Λ₀} {c : Dev nD} (dat : Pipeline.Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Pipeline.Dat.owesAt Pipeline.owesWithin; rw [h0]
  iintro ⟨%W, -, HO⟩; iexists W; iexact HO

end Cert.KernelIdeal

end
-- ==== Proof.Data.lean ====
/-
  The three pipelines' proof data: what each window's staging buffer holds after the body, what is owed, and the resources
  the two exchanging bodies carry.
-/
module

public import proofs.«01_k».proof.Proof.Setup
public import proofs.«01_k».proof.Proof.Gen.KernelIdeal.Regions
public import Idealize.ShloMosaic.Lib.Pipeline.FrameBody
public import Idealize.ShloMosaic.Lib.Pipeline.ValueKit

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen
open Cert.Ring (pr pl rev Proto Role)

variable {F : FTy → Type} [FloatOps F]

local notation "𝕄" => MT nD τ sig Unit (Elt F) ℕ UU ℕ

variable (m : (ℓ : Loc nD τ sig) → Buf (Elt F) ℓ)

/-- An exchange's resources as its body starts, -/
def talkIn (P : Proto sig F) (ER : Emb UX 𝕄) (rest : sProp 𝕄) (c : Dev nD) (W : Valuation τ sig (Elt F)) : sProp 𝕄 :=
  iprop(rest ∗ (∃ r, prngReg c r) ∗ StableHlo.held (c : Thread nD τ) ∅ W
    ∗ (∃ K, P.start ER K c) ∗ levAts L lv)
/-- and as it ends. -/
def talkOut (P : Proto sig F) (rest : sProp 𝕄) (c : Dev nD) (W : Valuation τ sig (Elt F)) : sProp 𝕄 :=
  iprop(rest ∗ (∃ r, prngReg c r) ∗ StableHlo.held (c : Thread nD τ) ∅ W
    ∗ Pipeline.ownSems0 P.osem c ∗ semVal (P.barCell c) 0)

def dat0 (c : Dev nD) : Dat τ (Elt F) Unit ℕ UU ℕ cfg0 c where
  A w := W0 m c (Proc.devRef .tc (Pipeline.arrRef spec0 w))
  after w t := match w with
    | ⟨0, _⟩ => X m c
    | ⟨1, _⟩ => G1 m c
  Φ t := if t.val = 0 then talkIn (P0 m) E0 (Pipeline.scopedRest spec0 c) c (W0 m c) else talkOut (P0 m) (Pipeline.scopedRest spec0 c) c (W1 m c)
  q _ := fullShare
  owed t := if t.val = 0 then (P2 m).due c + (P0 m).due c else (P2 m).due c

/-- Window `w`'s block of the product's pipeline at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (W1 m c (Proc.devRef .tc (Pipeline.arrRef spec1 w)))

abbrev q0 : Rect S128x4096 := Rect.unit (s := S128x4096) ![0, 0] S128x4096.size inb_S128x4096_S128x4096_0_0
abbrev q1 : Rect S4096x512 := Rect.unit (s := S4096x512) ![0, 0] S4096x512.size inb_S4096x512_S4096x512_0_0
abbrev q2 : Rect S128x512 := Rect.unit (s := S128x512) ![0, 0] S128x512.size inb_S128x512_S128x512_0_0

/-- What the product's body leaves in its output block. -/
def outY (x0 : Vec F S128x4096 .f32) (x1 : Vec F S4096x512 .f32) : Vec F S128x512 .f32 :=
  View.canon [⟨q2, k1_pay1 (View.ld x0 q0) (View.ld x1 q1)⟩]

def dat1 (c : Dev nD) : Dat τ (Elt F) Unit ℕ UU ℕ cfg1 c where
  A w := W1 m c (Proc.devRef .tc (Pipeline.arrRef spec1 w))
  after w t := match w with
    | ⟨0, _⟩ => iblk1 m c 0 t
    | ⟨1, _⟩ => iblk1 m c 1 t
    | ⟨2, _⟩ => outY (iblk1 m c 0 t) (iblk1 m c 1 t)
  Φ _ := Pipeline.ΦA spec1 c
  q _ := fullShare
  owed _ := (P2 m).due c

def dat2 (c : Dev nD) : Dat τ (Elt F) Unit ℕ UU ℕ cfg2 c where
  A w := W2 m c (Proc.devRef .tc (Pipeline.arrRef spec2 w))
  after w t := match w with
    | ⟨0, _⟩ => G2 m c
    | ⟨1, _⟩ => G3 m c
  Φ t := if t.val = 0 then talkIn (P2 m) E2 (Pipeline.scopedRest spec2 c) c (W2 m c) else talkOut (P2 m) (Pipeline.scopedRest spec2 c) c (W3 m c)
  q _ := fullShare
  owed t := if t.val = 0 then 0 + (P2 m).due c else 0

def pdats : (p : Fin 3) → (c : Dev nD) → Dat τ (Elt F) Unit ℕ UU ℕ (Pipeline.pin (pcfgs (F := F)) adm p) c
  | 0 => dat0 m
  | 1 => dat1 m
  | 2 => dat2 m

/-! ## The data, field by field -/

theorem after0_0 (c : Dev nD) (t) : (dat0 m c).after 0 t = X m c := by dsimp only [dat0]
theorem after0_1 (c : Dev nD) (t) : (dat0 m c).after 1 t = G1 m c := by dsimp only [dat0]
theorem after1_0 (c : Dev nD) (t) : (dat1 m c).after 0 t = iblk1 m c 0 t := by dsimp only [dat1]
theorem after1_1 (c : Dev nD) (t) : (dat1 m c).after 1 t = iblk1 m c 1 t := by dsimp only [dat1]
theorem after1_2 (c : Dev nD) (t) : (dat1 m c).after 2 t = outY (iblk1 m c 0 t) (iblk1 m c 1 t) := by dsimp only [dat1]
theorem after2_0 (c : Dev nD) (t) : (dat2 m c).after 0 t = G2 m c := by dsimp only [dat2]
theorem after2_1 (c : Dev nD) (t) : (dat2 m c).after 1 t = G3 m c := by dsimp only [dat2]

theorem owed0_zero (c : Dev nD) : (dat0 m c).owed 0 = (P2 m).due c + (P0 m).due c := by
  show (if (0 : Fin (cfg0.N + 1)).val = 0 then (P2 m).due c + (P0 m).due c else (P2 m).due c) = _; exact if_pos rfl
theorem owed0_first (c : Dev nD) : (dat0 m c).owed t0_0.castSucc = (P2 m).due c + (P0 m).due c := owed0_zero m c
theorem owed0_last (c : Dev nD) : (dat0 m c).owed (Fin.last _) = (P2 m).due c := by
  show (if (Fin.last cfg0.N).val = 0 then (P2 m).due c + (P0 m).due c else (P2 m).due c) = _
  rw [Fin.val_last, if_neg (by rw [show cfg0.N = 1 from N_0]; decide)]
theorem owed2_zero (c : Dev nD) : (dat2 m c).owed 0 = 0 + (P2 m).due c := by
  show (if (0 : Fin (cfg2.N + 1)).val = 0 then 0 + (P2 m).due c else 0) = _; exact if_pos rfl
theorem owed2_first (c : Dev nD) : (dat2 m c).owed t2_0.castSucc = 0 + (P2 m).due c := owed2_zero m c
theorem owed2_last (c : Dev nD) : (dat2 m c).owed (Fin.last _) = 0 := by
  show (if (Fin.last cfg2.N).val = 0 then 0 + (P2 m).due c else 0) = _
  rw [Fin.val_last, if_neg (by rw [show cfg2.N = 1 from N_2]; decide)]

theorem Φ0_zero (c : Dev nD) : (dat0 m c).Φ 0 = talkIn (P0 m) E0 (Pipeline.scopedRest spec0 c) c (W0 m c) := by
  show (if (0 : Fin (cfg0.N + 1)).val = 0 then talkIn (P0 m) E0 (Pipeline.scopedRest spec0 c) c (W0 m c) else talkOut (P0 m) (Pipeline.scopedRest spec0 c) c (W1 m c)) = _; exact if_pos rfl
theorem Φ0_last (c : Dev nD) : (dat0 m c).Φ (Fin.last _) = talkOut (P0 m) (Pipeline.scopedRest spec0 c) c (W1 m c) := by
  show (if (Fin.last cfg0.N).val = 0 then talkIn (P0 m) E0 (Pipeline.scopedRest spec0 c) c (W0 m c) else talkOut (P0 m) (Pipeline.scopedRest spec0 c) c (W1 m c)) = _
  rw [Fin.val_last, if_neg (by rw [show cfg0.N = 1 from N_0]; decide)]
theorem Φ2_zero (c : Dev nD) : (dat2 m c).Φ 0 = talkIn (P2 m) E2 (Pipeline.scopedRest spec2 c) c (W2 m c) := by
  show (if (0 : Fin (cfg2.N + 1)).val = 0 then talkIn (P2 m) E2 (Pipeline.scopedRest spec2 c) c (W2 m c) else talkOut (P2 m) (Pipeline.scopedRest spec2 c) c (W3 m c)) = _; exact if_pos rfl
theorem Φ2_last (c : Dev nD) : (dat2 m c).Φ (Fin.last _) = talkOut (P2 m) (Pipeline.scopedRest spec2 c) c (W3 m c) := by
  show (if (Fin.last cfg2.N).val = 0 then talkIn (P2 m) E2 (Pipeline.scopedRest spec2 c) c (W2 m c) else talkOut (P2 m) (Pipeline.scopedRest spec2 c) c (W3 m c)) = _
  rw [Fin.val_last, if_neg (by rw [show cfg2.N = 1 from N_2]; decide)]

/-! ## What the inputs' staging buffers hold as a body starts -/

/-- The one point's block of a whole array is the array. -/
theorem blk0_0 (t : Fin cfg0.N) (f : S4096x128.Idx → Elt F .f32) : ((cfg0.win 0).blk t).view.read (Elt F) f = f := by
  funext y
  show f (((cfg0.win 0).blk t).view.emb y) = f y
  congr 1; funext a; apply Fin.ext; blk_simp
  rw [show win0_0.index t a = 0 from rfl, Nat.zero_mul, Nat.zero_add]
theorem blk2_0 (t : Fin cfg2.N) (f : S128x8192.Idx → Elt F .f32) : ((cfg2.win 0).blk t).view.read (Elt F) f = f := by
  funext y
  show f (((cfg2.win 0).blk t).view.emb y) = f y
  congr 1; funext a; apply Fin.ext; blk_simp
  rw [show win2_0.index t a = 0 from rfl, Nat.zero_mul, Nat.zero_add]

theorem before0 (c : Dev nD) (t : Fin cfg0.N) (d) : (dat0 m c).before 0 t d = X m c :=
  ((dat0 m c).before_in_eq_fetched 0 rfl (fun _ => rfl) (fun _ _ _ => rfl)
    (fun t => by rw [after0_0]; exact (blk0_0 t (X m c)).symm) t d).trans (blk0_0 t (X m c))
theorem before2 (c : Dev nD) (t : Fin cfg2.N) (d) : (dat2 m c).before 0 t d = G2 m c :=
  ((dat2 m c).before_in_eq_fetched 0 rfl (fun _ => rfl) (fun _ _ _ => rfl)
    (fun t => by rw [after2_0]; exact (((congrArg _ (W2_v2 m c)).trans (blk2_0 t (G2 m c)))).symm) t d).trans
    ((congrArg _ (W2_v2 m c)).trans (blk2_0 t (G2 m c)))
theorem before1_0 (c : Dev nD) (t : Fin cfg1.N) (d) : (dat1 m c).before 0 t d = iblk1 m c 0 t :=
  ((dat1 m c).before_in_eq_fetched 0 rfl (fun _ => rfl) (fun _ _ _ => rfl) (fun t => by rw [after1_0]; rfl) t d).trans rfl
theorem before1_1 (c : Dev nD) (t : Fin cfg1.N) (d) : (dat1 m c).before 1 t d = iblk1 m c 1 t :=
  ((dat1 m c).before_in_eq_fetched 1 rfl (fun _ => rfl) (fun _ _ _ => rfl) (fun t => by rw [after1_1]; rfl) t d).trans rfl

/-! ## What the output arrays hold after the last point -/

theorem arr0_1 (c : Dev nD) : (dat0 m c).arrAt 1 cfg0.N = G1 m c := by
  refine (dat0 m c).arrAt_eq_of_after_last 1 t0_0 (by decide +kernel) _ fun j => ?_
  rw [after0_1]
  show G1 m c _ = G1 m c _
  rfl
theorem arr2_1 (c : Dev nD) : (dat2 m c).arrAt 1 cfg2.N = G3 m c := by
  refine (dat2 m c).arrAt_eq_of_after_last 1 t2_0 (by decide +kernel) _ fun j => ?_
  rw [after2_1]
  show G3 m c _ = G3 m c _
  rfl

end Cert.KernelIdeal

end
-- ==== Proof.Region0.lean ====
/-
  Region 0, an exchange: its body runs from the state its pipeline hands it to the state the pipeline takes back.
-/
module

public import proofs.«01_k».proof.Proof.Data

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen
open Cert.Ring (pr pl rev Proto Role)

variable {F : FTy → Type} [FloatOps F]

local notation "𝕄" => MT nD τ sig Unit (Elt F) ℕ UU ℕ

variable (m : (ℓ : Loc nD τ sig) → Buf (Elt F) ℓ)

theorem row0 (t : Fin cfg0.N) : defs₀ (F := F) .tc cfg0.body (cfg0.bodyArgs t (cfg0.slots t)) = bodyAt0 t := by
  unfold defs₀; rw [Defs.onTc_tc]

theorem run0 (c : Dev nD) :
    iprop((dat0 m c).Φ t0_0.castSucc ∗ (dat0 m c).owesAt () t0_0.castSucc
        ∗ (∃ d, owns (c : Thread nD τ) (st0_0 t0_0) fullShare ((dat0 m c).before 0 t0_0 d))
        ∗ (∃ d, owns (c : Thread nD τ) (st0_1 t0_0) fullShare ((dat0 m c).before 1 t0_0 d)))
      ⊢ wp frame (wpE (defs₀ (F := F)) 𝒱₀ c none) Set.univ (bodyAt0 t0_0) fun _ =>
        iprop((dat0 m c).Φ t0_0.succ ∗ (dat0 m c).owesAt () t0_0.succ
          ∗ owns (c : Thread nD τ) (st0_0 t0_0) fullShare ((dat0 m c).after 0 t0_0)
          ∗ owns (c : Thread nD τ) (st0_1 t0_0) fullShare ((dat0 m c).after 1 t0_0)) := by
  rw [after0_0, after0_1, show (dat0 m c).Φ t0_0.castSucc = _ from Φ0_zero m c, show (dat0 m c).Φ t0_0.succ = _ from Φ0_last m c]
  rw [show owns (c : Thread nD τ) (st0_0 t0_0) fullShare (X m c) = (((c : Thread nD τ).loc cc0_stg0_0) ↦{fullShare} X m c : sProp 𝕄)
      from owns_whole (c : Thread nD τ) cc0_stg0_0 fullShare (X m c),
    show owns (c : Thread nD τ) (st0_1 t0_0) fullShare (G1 m c) = (((c : Thread nD τ).loc cc0_stg1_0) ↦{fullShare} G1 m c : sProp 𝕄)
      from owns_whole (c : Thread nD τ) cc0_stg1_0 fullShare (G1 m c)]
  unfold talkIn talkOut
  iintro ⟨⟨Hrest, Hp, -, ⟨%K, Hst⟩, #Hlev⟩, HO, ⟨%d0, Hx⟩, ⟨%d1, Hy⟩⟩
  ihave HO' := (owesAt_elim (dat0 m c) _ _ (owed0_first m c)) $$ HO
  icases HO' with ⟨%W, HO⟩
  have hx : (owns (c : Thread nD τ) (st0_0 t0_0) fullShare ((dat0 m c).before 0 t0_0 d0) : sProp 𝕄)
      ⊢ (((c : Thread nD τ).loc cc0_stg0_0) ↦{fullShare} X m c) := by
    rw [before0]; exact Entails.of_eq (owns_whole (c : Thread nD τ) cc0_stg0_0 fullShare (X m c))
  have hy : (owns (c : Thread nD τ) (st0_1 t0_0) fullShare ((dat0 m c).before 1 t0_0 d1) : sProp 𝕄)
      ⊢ (((c : Thread nD τ).loc cc0_stg1_0) ↦{fullShare} (dat0 m c).before 1 t0_0 d1) :=
    Entails.of_eq (owns_whole (c : Thread nD τ) cc0_stg1_0 fullShare ((dat0 m c).before 1 t0_0 d1))
  iapply (body0 (X m) E0 K 𝒱₀ c ((P2 m).due c) W (levAts L lv) (wait0_bar m c) (wait0_snd m c) (wait0_rcv m c) ((dat0 m c).before 1 t0_0 d1) _)
  isplitl [Hst]; · iexact Hst
  isplitr; · iexact Hlev
  isplitl [HO]; · rw [(P0 m).dues_due]; iexact HO
  isplitl [Hx]; · iapply hx; iexact Hx
  isplitl [Hy]; · iapply hy; iexact Hy
  iintro ⟨HO, Hb, Hs, Hx, Hy⟩
  isplitl [Hrest Hp Hb Hs]
  · isplitl [Hrest]; · iexact Hrest
    isplitl [Hp]; · iexact Hp
    isplitr
    · unfold StableHlo.held; rw [BI.bigSep_empty]; iempintro
    isplitl [Hs]; · iexact Hs
    iexact Hb
  isplitl [HO]; · iapply (owesAt_intro (dat0 m c) t0_0.succ _ (owed0_last m c) rfl); iexact HO
  isplitl [Hx]; · iexact Hx
  iexact Hy

theorem obl0 (c : Dev nD) : BodyObligation (dat0 m c) (defs₀ (F := F)) 𝒱₀ () Set.univ := fun t => by
  obtain rfl := fin_N0 t
  rw [bigSep_W0, bigSep_W0, row0]
  exact triple_restated (run0 m c) rfl .rfl fun _ => .rfl

end Cert.KernelIdeal

end
-- ==== Proof.Region1.lean ====
/-
  Region 1, the product: its body at a point, and the array its output blocks make.
-/
module

public import proofs.«01_k».proof.Proof.Data

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen
open Cert.Ring (pr pl rev Proto Role)

variable {F : FTy → Type} [FloatOps F]

local notation "𝕄" => MT nD τ sig Unit (Elt F) ℕ UU ℕ

variable (m : (ℓ : Loc nD τ sig) → Buf (Elt F) ℓ)

theorem coverY (p0 : Vec F S128x512 .f32) (y : S128x512.Idx) :
    ∃ pc ∈ ([⟨q2, p0⟩] : List (View.Piece (Elt F) S128x512 .f32)), y ∈ pc.1.set :=
  View.cover_of_tiled [⟨q2, p0⟩] S128x512.size (by rfl) y

set_option maxHeartbeats 1000000 in
theorem body1 (c : Dev nD) (E : Set ℕ) (a1 : Memref sig .tc .vmem S128x4096 .f32) (h1 : a1.IsWhole) (a2 : Memref sig .tc .vmem S4096x512 .f32) (h2 : a2.IsWhole)
    (a3 : Memref sig .tc .vmem S128x512 .f32) (h3 : a3.IsWhole) (i : grid1.Coords)
    (x0 : Vec F S128x4096 .f32) (x1 : Vec F S4096x512 .f32) (Q : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (outY x0 x1)) -∗ Q ⟨⟩))
      ⊢ wp frame (wpE (defs₀ (F := F)) 𝒱₀ c none) E (cc1_body i a1 h1 a2 h2 a3 h3) Q := by
  simp only [cc1_body_eq_skeleton]; unfold cc1_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverY _)

theorem row1 (t : Fin cfg1.N) : defs₀ (F := F) .tc cfg1.body (cfg1.bodyArgs t (cfg1.slots t)) = bodyAt1 t := by
  unfold defs₀; rw [Defs.onTc_tc]

theorem run1 (c : Dev nD) (t : Fin cfg1.N) :
    iprop((dat1 m c).Φ t.castSucc ∗ (dat1 m c).owesAt () t.castSucc
        ∗ (∃ d, owns (c : Thread nD τ) (st1_0 t) fullShare ((dat1 m c).before 0 t d))
        ∗ (∃ d, owns (c : Thread nD τ) (st1_1 t) fullShare ((dat1 m c).before 1 t d))
        ∗ (∃ d, owns (c : Thread nD τ) (st1_2 t) fullShare ((dat1 m c).before 2 t d)))
      ⊢ wp frame (wpE (defs₀ (F := F)) 𝒱₀ c none) Set.univ (bodyAt1 t) fun _ =>
        iprop((dat1 m c).Φ t.succ ∗ (dat1 m c).owesAt () t.succ
          ∗ owns (c : Thread nD τ) (st1_0 t) fullShare ((dat1 m c).after 0 t)
          ∗ owns (c : Thread nD τ) (st1_1 t) fullShare ((dat1 m c).after 1 t)
          ∗ owns (c : Thread nD τ) (st1_2 t) fullShare ((dat1 m c).after 2 t)) := by
  rw [after1_0, after1_1, after1_2, show (dat1 m c).Φ t.succ = (dat1 m c).Φ t.castSucc from rfl,
    show (dat1 m c).owesAt () t.succ = (dat1 m c).owesAt () t.castSucc from rfl]
  iintro ⟨HΦ, HO, ⟨%d0, Hx⟩, ⟨%d1, Hw⟩, ⟨%d2, Hy⟩⟩
  rw [before1_0, before1_1]
  iapply (body1 c Set.univ (st1_0 t) (hstage1_0 _) (st1_1 t) (hstage1_1 _) (st1_2 t) (hstage1_2 _) (cfg1.grid.coords t) (iblk1 m c 0 t) (iblk1 m c 1 t) _)
  isplitl [Hx]; · iexact Hx
  isplitl [Hw]; · iexact Hw
  isplitl [Hy]; · iexists _; iexact Hy
  iintro ⟨Hx, Hw, Hy⟩
  isplitl [HΦ]; · iexact HΦ
  isplitl [HO]; · iexact HO
  isplitl [Hx]; · iexact Hx
  isplitl [Hw]; · iexact Hw
  iexact Hy

theorem obl1 (c : Dev nD) : BodyObligation (dat1 m c) (defs₀ (F := F)) 𝒱₀ () Set.univ := fun t => by
  rw [bigSep_W1, bigSep_W1, row1]
  exact triple_restated (run1 m c t) rfl .rfl fun _ => .rfl

/-! ## The product from its blocks -/

theorem at1_0 : ∀ (t : Fin cfg1.N) (a : Fin 2), win1_0.index t a = 0 := by decide
theorem at1_1 : ∀ (t : Fin cfg1.N), win1_1.index t (0 : Fin 2) = 0 ∧ win1_1.index t (1 : Fin 2) = t.val := by decide
theorem at1_2 : ∀ (t : Fin cfg1.N), win1_2.index t (0 : Fin 2) = 0 ∧ win1_2.index t (1 : Fin 2) = t.val := by decide

theorem iblk1_0 (c : Dev nD) (t : Fin cfg1.N) : (iblk1 m c 0 t : S128x4096.Idx → Elt F .f32) = G1 m c := by
  funext y
  show W1 m c (Proc.devRef .tc main_v1) (((cfg1.win 0).blk t).view.emb y) = _
  rw [W1_v1]
  congr 1; funext a; apply Fin.ext; blk_simp
  rw [show win1_0.index t a = 0 from at1_0 t a, Nat.zero_mul, Nat.zero_add]

theorem iblk1_1 (c : Dev nD) (t : Fin cfg1.N) :
    (iblk1 m c 1 t : S4096x512.Idx → Elt F .f32) = tile ⟨t.val, t.isLt.trans_eq N_1⟩ (Wt m c) := by
  funext y
  show W1 m c (Proc.devRef .tc main_arg1) (((cfg1.win 1).blk t).view.emb y) = _
  rw [W1_of m c main_arg1 (by decide)]
  show Wt m c _ = Wt m c _
  congr 1; funext a; apply Fin.ext; blk_simp
  match a with
  | ⟨0, _⟩ =>
    show win1_1.index t (0 : Fin 2) * win1_1.size (0 : Fin 2) + (y 0).val = (y 0).val
    rw [(at1_1 t).1, Nat.zero_mul, Nat.zero_add]
  | ⟨1, _⟩ =>
    show win1_1.index t (1 : Fin 2) * 512 + (y 1).val = 512 * t.val + (y 1).val
    rw [(at1_1 t).2, Nat.mul_comm]

/-- The product at a place of columns block `t`. -/
theorem gemm_at (x : S128x4096.Idx → Elt F .f32) (w : S4096x8192.Idx → Elt F .f32) (t : Fin 16) (y : S128x512.Idx) (i : S128x8192.Idx)
    (h0 : (i 0).val = (y 0).val) (h1 : (i 1).val = 512 * t.val + (y 1).val) : gemm x w i = k1_pay1 x (tile t w) y := by
  have hy : (y 1).val < 512 := (y 1).isLt
  unfold gemm
  have ht : (⟨(i 1).val / 512, by have : (i 1).val < 8192 := (i 1).isLt; omega⟩ : Fin 16) = t := Fin.ext (by show (i 1).val / 512 = t.val; omega)
  rw [ht]
  congr 1; funext a; apply Fin.ext
  match a with
  | ⟨0, _⟩ => exact h0
  | ⟨1, _⟩ => show (i 1).val % 512 = (y 1).val; omega

theorem arr1_2 (c : Dev nD) : (dat1 m c).arrAt 2 cfg1.N = G2 m c := by
  refine (dat1 m c).arrAt_eq_of_covers 2 _ (by decide +kernel) fun t hf y => ?_
  rw [after1_2, iblk1_0, iblk1_1]
  unfold outY
  frame_out
  refine (gemm_at (G1 m c) (Wt m c) ⟨t.val, t.isLt.trans_eq N_1⟩ y _ ?_ ?_).symm
  · blk_simp
    rw [show win1_2.index t _ = 0 from (at1_2 t).1, Nat.zero_mul, Nat.zero_add]
  · blk_simp
    rw [show win1_2.index t _ = t.val from (at1_2 t).2]; exact congrArg (· + _) (Nat.mul_comm _ _)

end Cert.KernelIdeal

end
-- ==== Proof.Region2.lean ====
/-
  Region 2, an exchange: its body runs from the state its pipeline hands it to the state the pipeline takes back.
-/
module

public import proofs.«01_k».proof.Proof.Data

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen
open Cert.Ring (pr pl rev Proto Role)

variable {F : FTy → Type} [FloatOps F]

local notation "𝕄" => MT nD τ sig Unit (Elt F) ℕ UU ℕ

variable (m : (ℓ : Loc nD τ sig) → Buf (Elt F) ℓ)

theorem row2 (t : Fin cfg2.N) : defs₀ (F := F) .tc cfg2.body (cfg2.bodyArgs t (cfg2.slots t)) = bodyAt2 t := by
  unfold defs₀; rw [Defs.onTc_tc]

theorem run2 (c : Dev nD) :
    iprop((dat2 m c).Φ t2_0.castSucc ∗ (dat2 m c).owesAt () t2_0.castSucc
        ∗ (∃ d, owns (c : Thread nD τ) (st2_0 t2_0) fullShare ((dat2 m c).before 0 t2_0 d))
        ∗ (∃ d, owns (c : Thread nD τ) (st2_1 t2_0) fullShare ((dat2 m c).before 1 t2_0 d)))
      ⊢ wp frame (wpE (defs₀ (F := F)) 𝒱₀ c none) Set.univ (bodyAt2 t2_0) fun _ =>
        iprop((dat2 m c).Φ t2_0.succ ∗ (dat2 m c).owesAt () t2_0.succ
          ∗ owns (c : Thread nD τ) (st2_0 t2_0) fullShare ((dat2 m c).after 0 t2_0)
          ∗ owns (c : Thread nD τ) (st2_1 t2_0) fullShare ((dat2 m c).after 1 t2_0)) := by
  rw [after2_0, after2_1, show (dat2 m c).Φ t2_0.castSucc = _ from Φ2_zero m c, show (dat2 m c).Φ t2_0.succ = _ from Φ2_last m c]
  rw [show owns (c : Thread nD τ) (st2_0 t2_0) fullShare (G2 m c) = (((c : Thread nD τ).loc cc2_stg0_0) ↦{fullShare} G2 m c : sProp 𝕄)
      from owns_whole (c : Thread nD τ) cc2_stg0_0 fullShare (G2 m c),
    show owns (c : Thread nD τ) (st2_1 t2_0) fullShare (G3 m c) = (((c : Thread nD τ).loc cc2_stg1_0) ↦{fullShare} G3 m c : sProp 𝕄)
      from owns_whole (c : Thread nD τ) cc2_stg1_0 fullShare (G3 m c)]
  unfold talkIn talkOut
  rw [scopedRest2_eq]
  iintro ⟨⟨⟨R1, R2, R3, R4, R5, R6, R7, ⟨%g, Hm⟩⟩, Hp, -, ⟨%K, Hst⟩, #Hlev⟩, HO, ⟨%d0, Hx⟩, ⟨%d1, Hy⟩⟩
  ihave HO' := (owesAt_elim (dat2 m c) _ _ (owed2_first m c)) $$ HO
  icases HO' with ⟨%W, HO⟩
  have hx : (owns (c : Thread nD τ) (st2_0 t2_0) fullShare ((dat2 m c).before 0 t2_0 d0) : sProp 𝕄)
      ⊢ (((c : Thread nD τ).loc cc2_stg0_0) ↦{fullShare} G2 m c) := by
    rw [before2]; exact Entails.of_eq (owns_whole (c : Thread nD τ) cc2_stg0_0 fullShare (G2 m c))
  have hy : (owns (c : Thread nD τ) (st2_1 t2_0) fullShare ((dat2 m c).before 1 t2_0 d1) : sProp 𝕄)
      ⊢ (((c : Thread nD τ).loc cc2_stg1_0) ↦{fullShare} (dat2 m c).before 1 t2_0 d1) :=
    Entails.of_eq (owns_whole (c : Thread nD τ) cc2_stg1_0 fullShare ((dat2 m c).before 1 t2_0 d1))
  iapply (body2 (G2 m) E2 K 𝒱₀ c 0 W (levAts L lv) (wait2_bar m c) (fun k => wait_none c _) (fun k => wait_none c _) ((dat2 m c).before 1 t2_0 d1) g _)
  isplitl [Hst]; · iexact Hst
  isplitr; · iexact Hlev
  isplitl [HO]; · rw [(P2 m).dues_due]; iexact HO
  isplitl [Hx]; · iapply hx; iexact Hx
  isplitl [Hy]; · iapply hy; iexact Hy
  isplitl [Hm]; · iexact Hm
  iintro ⟨HO, Hb, Hs, Hx, Hy, Hm⟩
  isplitl [R1 R2 R3 R4 R5 R6 R7 Hm Hp Hb Hs]
  · isplitl [R1 R2 R3 R4 R5 R6 R7 Hm]
    · isplitl [R1]; · iexact R1
      isplitl [R2]; · iexact R2
      isplitl [R3]; · iexact R3
      isplitl [R4]; · iexact R4
      isplitl [R5]; · iexact R5
      isplitl [R6]; · iexact R6
      isplitl [R7]; · iexact R7
      iexact Hm
    isplitl [Hp]; · iexact Hp
    isplitr
    · unfold StableHlo.held; rw [BI.bigSep_empty]; iempintro
    isplitl [Hs]; · iexact Hs
    iexact Hb
  isplitl [HO]; · iapply (owesAt_intro (dat2 m c) t2_0.succ _ (owed2_last m c) rfl); iexact HO
  isplitl [Hx]; · iexact Hx
  iexact Hy

theorem obl2 (c : Dev nD) : BodyObligation (dat2 m c) (defs₀ (F := F)) 𝒱₀ () Set.univ := fun t => by
  obtain rfl := fin_N2 t
  rw [bigSep_W2, bigSep_W2, row2]
  exact triple_restated (run2 m c) rfl .rfl fun _ => .rfl

end Cert.KernelIdeal

end
-- ==== Proof.Segs.lean ====
/-
  The three regions as segments of the program: the state each is entered from and the state each leaves.
-/
module

public import proofs.«01_k».proof.Proof.Region0
public import proofs.«01_k».proof.Proof.Region1
public import proofs.«01_k».proof.Proof.Region2

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen
open Cert.Ring (pr pl rev Proto Role)

variable {F : FTy → Type} [FloatOps F]

local notation "𝕄" => MT nD τ sig Unit (Elt F) ℕ UU ℕ

variable (m : (ℓ : Loc nD τ sig) → Buf (Elt F) ℓ)

local notation "ℝ𝕊" => Pipeline.RegionSeg (pcfgs (F := F)) adm (pdats m) () defs₀ 𝒱₀ L lv

/-! ## What the kit asks of each pipeline -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1
theorem kit2 : Pipeline.PLaunchFacts (nD := nD) (τ := τ) (pcfgs (F := F)) 2 where
  cellOf_inj a := by rw [Subsingleton.elim a adm]; exact cellOf_inj
  win := winFacts2
  pre := Pipeline.PreFacts.none _
  block_pos := block_pos2
  arr_whole := arr_whole2
  stage_whole := stage_whole2

theorem semFacts0 : Pipeline.OwnSemFacts spec0 (P0 m).osem :=
  (by decide : Pipeline.OwnSemFacts spec0 (Sum.elim (fun k : Fin 31 => .dma (ex0.snd k)) (fun k : Fin 31 => .dma (ex0.rcv k))))
theorem semFacts2 : Pipeline.OwnSemFacts spec2 (P2 m).osem :=
  (by decide : Pipeline.OwnSemFacts spec2 (Sum.elim (fun k : Fin 31 => .dma (ex2.snd k)) (fun k : Fin 31 => .dma (ex2.rcv k))))

/-! ## Levels of the staging waits -/

theorem stage_lv0 : ∀ (w : Fin 2) (s : Fin (spec0 w).nbuf), lvS (.dma ((spec0 w).sem s)) = 0 := by decide
theorem stage_lv1 : ∀ (w : Fin 3) (s : Fin (spec1 w).nbuf), lvS (.dma ((spec1 w).sem s)) = 0 := by decide
theorem stage_lv2 : ∀ (w : Fin 2) (s : Fin (spec2 w).nbuf), lvS (.dma ((spec2 w).sem s)) = 0 := by decide

theorem owed0_pos {c : Dev nD} {t} {g : GSem nD τ sig} {i : Unit} (h : 0 < (dat0 m c).owed t g i) : i ∈ L g ∧ 0 < lv g i := by
  have e : (dat0 m c).owed t = if t.val = 0 then (P2 m).due c + (P0 m).due c else (P2 m).due c := rfl
  rw [e] at h
  split at h
  · rw [Pi.add_apply, Finsupp.add_apply] at h
    rcases Nat.add_pos_iff_pos_or_pos.mp h with h | h
    · have := due2_pos m h; exact ⟨this.1, by omega⟩
    · exact due0_pos m h
  · have := due2_pos m h; exact ⟨this.1, by omega⟩
theorem owed2_pos {c : Dev nD} {t} {g : GSem nD τ sig} {i : Unit} (h : 0 < (dat2 m c).owed t g i) : i ∈ L g ∧ 0 < lv g i := by
  have e : (dat2 m c).owed t = if t.val = 0 then 0 + (P2 m).due c else 0 := rfl
  rw [e, zero_add] at h
  split at h
  · have := due2_pos m h; exact ⟨this.1, by omega⟩
  · exact absurd h (Nat.lt_irrefl 0)

/-! ## The states between the regions -/

abbrev D2 (c : Dev nD) : CellTallies nD τ sig Unit := (P2 m).due c

/-- The second exchange's ghost state, waiting for its region. -/
def later (c : Dev nD) : sProp 𝕄 := iprop(∃ K, (P2 m).before E2 K c)
def sooner (c : Dev nD) : sProp 𝕄 := iprop(∃ K, (P0 m).before E0 K c)

def T0 (c : Dev nD) : sProp 𝕄 :=
  iprop(StableHlo.held (c : Thread nD τ) (Pipeline.ucRefs τ sig) (W0 m c) ∗ (∃ r, prngReg c r) ∗ sooner m c ∗ later m c
    ∗ ∃ Wd, owes (c : Thread nD τ) (D2 m c + (P0 m).due c) Wd)
def T1 (c : Dev nD) : sProp 𝕄 :=
  iprop(StableHlo.held (c : Thread nD τ) (Pipeline.ucRefs τ sig) (W1 m c) ∗ (∃ r, prngReg c r) ∗ semVal ((P0 m).barCell c) 0 ∗ later m c
    ∗ ∃ Wd, owes (c : Thread nD τ) (D2 m c) Wd)
def T2 (c : Dev nD) : sProp 𝕄 :=
  iprop(StableHlo.held (c : Thread nD τ) (Pipeline.ucRefs τ sig) (W2 m c) ∗ (∃ r, prngReg c r) ∗ semVal ((P0 m).barCell c) 0 ∗ later m c
    ∗ ∃ Wd, owes (c : Thread nD τ) (D2 m c) Wd)
def T3 (c : Dev nD) : sProp 𝕄 :=
  iprop(StableHlo.held (c : Thread nD τ) (Pipeline.ucRefs τ sig) (W3 m c) ∗ semVal ((P0 m).barCell c) 0 ∗ semVal ((P2 m).barCell c) 0)

abbrev a0 : Finset (DevRef τ sig) := Pipeline.arrRefs spec0
abbrev a1 : Finset (DevRef τ sig) := Pipeline.arrRefs spec1
abbrev a2 : Finset (DevRef τ sig) := Pipeline.arrRefs spec2
theorem a0_sub : a0 ⊆ Pipeline.ucRefs τ sig := Pipeline.arrRefs_sub_ucRefs spec0 (by decide)
theorem a1_sub : a1 ⊆ Pipeline.ucRefs τ sig := Pipeline.arrRefs_sub_ucRefs spec1 (by decide)
theorem a2_sub : a2 ⊆ Pipeline.ucRefs τ sig := Pipeline.arrRefs_sub_ucRefs spec2 (by decide)
theorem mem_arr {gr W : Nat} (win : Fin W → Pipeline.WinSpec sig gr) (w : Fin W) :
    (Proc.devRef .tc (Pipeline.arrRef win w) : DevRef τ sig) ∈ Pipeline.arrRefs win :=
  Finset.mem_map_of_mem _ (Finset.mem_image_of_mem _ (Finset.mem_univ w))

theorem rest0 (c : Dev nD) : ∀ b ∈ Pipeline.ucRefs τ sig \ a0, W1 m c b = W0 m c b := fun b hb =>
  W1_ne m c fun e => (Finset.mem_sdiff.mp hb).2 (e ▸ mem_arr spec0 1)
theorem rest1 (c : Dev nD) : ∀ b ∈ Pipeline.ucRefs τ sig \ a1, W1 m c b = W2 m c b := fun b hb =>
  (W2_ne m c (b := b) fun e => (Finset.mem_sdiff.mp hb).2 (e ▸ mem_arr spec1 2)).symm
theorem rest2 (c : Dev nD) : ∀ b ∈ Pipeline.ucRefs τ sig \ a2, W3 m c b = W2 m c b := fun b hb =>
  W3_ne m c fun e => (Finset.mem_sdiff.mp hb).2 (e ▸ mem_arr spec2 1)

/-! ## Region 0 -/

def Xk (P : Proto sig F) (ER : Emb UX 𝕄) (c : Dev nD) : sProp 𝕄 := iprop((∃ K, P.start ER K c) ∗ levAts L lv)
def Tk (P : Proto sig F) (ER : Emb UX 𝕄) (c : Dev nD) : sProp 𝕄 := iprop(∃ K, P.before ER K c)

theorem opens (P : Proto sig F) (ER : Emb UX 𝕄) [ER.LandsIn (upEmb : UEmb _ 𝕄)] (c : Dev nD) :
    iprop(Tk P ER c ∗ Pipeline.ownSems0 P.osem c ∗ levAts L lv) ⊢ (|={Set.univ}=> Xk P ER c : sProp 𝕄) := by
  unfold Tk Xk
  iintro ⟨⟨%K, Hb⟩, Hs, Hl⟩
  imod (P.open_start ER K c) $$ [Hb Hs] with Hst
  · isplitl [Hb] <;> iassumption
  imodintro
  isplitl [Hst]; · iexists K; iexact Hst
  iexact Hl

theorem arrIn0 (c : Dev nD) : ∀ w : Fin 2, (dat0 m c).arrAt w cfg0.N = W1 m c (Proc.devRef .tc (Pipeline.arrRef spec0 w))
  | 0 => ((dat0 m c).arrAt_in 0 rfl _).trans (W1_of m c main_arg0 (by decide)).symm
  | 1 => (arr0_1 m c).trans (W1_v1 m c).symm
theorem arrIn1 (c : Dev nD) : ∀ w : Fin 3, (dat1 m c).arrAt w cfg1.N = W2 m c (Proc.devRef .tc (Pipeline.arrRef spec1 w))
  | 0 => ((dat1 m c).arrAt_in 0 rfl _).trans (W2_of m c main_v1 (by decide)).symm
  | 1 => ((dat1 m c).arrAt_in 1 rfl _).trans (W2_of m c main_arg1 (by decide)).symm
  | 2 => (arr1_2 m c).trans (W2_v2 m c).symm
theorem arrIn2 (c : Dev nD) : ∀ w : Fin 2, (dat2 m c).arrAt w cfg2.N = W3 m c (Proc.devRef .tc (Pipeline.arrRef spec2 w))
  | 0 => ((dat2 m c).arrAt_in 0 rfl _).trans (W3_of m c main_v2 (by decide)).symm
  | 1 => (arr2_1 m c).trans (W3_v3 m c).symm

set_option backward.isDefEq.respectTransparency.types false in
def reg0 : ℝ𝕊 0 :=
  Pipeline.RegionSeg.ofTalk (pcfgs (F := F)) adm (pdats m) () defs₀ 𝒱₀ L lv 0 (P0 m).osem (semFacts0 m)
    ∅ (Pipeline.ucRefs τ sig \ a0) (Finset.empty_subset _) kit0 rfl (fun c => (obl0 m c).loose)
    (D2 m) (P0 m).due (owed0_zero m) (owed0_last m) (fun _ => rfl) (fun c => (dat0 m c).share_full fun _ => rfl)
    (W0 m) (W1 m) (fun c b hb => rest0 m c b (Finset.mem_sdiff.mp hb).1)
    (Tk (P0 m) E0) (fun c => semVal ((P0 m).barCell c) 0) (Xk (P0 m) E0) (fun c => semVal ((P0 m).barCell c) 0)
    (opens (P0 m) E0)
    (fun c => (Entails.of_eq (Φ0_zero m c).symm))
    (fun c => (Entails.of_eq (Φ0_last m c)))
    (fun c => by iintro H; imodintro; iexact H)
    (fun _ => 0)
    ⟨fun c _ _ => mem_L c _, fun c w s => (stage_lv0 w s).le, fun c t g i h => owed0_pos m h⟩
    (later m)
    (fun _ _ => rfl) (arrIn0 m)

set_option backward.isDefEq.respectTransparency.types false in
def reg1 : ℝ𝕊 1 :=
  Pipeline.RegionSeg.ofHeld (pcfgs (F := F)) adm (pdats m) () defs₀ 𝒱₀ L lv 1 (D2 m)
    (fun c => iprop(∃ r, prngReg c r)) (fun c => iprop(∃ r, prngReg c r)) kit1 rfl (fun c => (obl1 m c).loose)
    (fun _ _ => rfl) (fun _ => rfl) (fun c => (dat1 m c).share_full fun _ => rfl)
    (fun c => .rfl) (fun c => .rfl)
    (fun _ => 0)
    ⟨fun c _ _ => mem_L c _, fun c w s => (stage_lv1 w s).le, fun c g i h => ⟨(due2_pos m h).1, Nat.lt_of_le_of_lt (by decide) (due2_pos m h).2⟩⟩
    (fun c => iprop(StableHlo.held (c : Thread nD τ) (Pipeline.ucRefs τ sig \ a1) (W1 m c) ∗ semVal ((P0 m).barCell c) 0 ∗ later m c))
    (W1 m) (W2 m) (fun _ _ => rfl) (arrIn1 m)

set_option backward.isDefEq.respectTransparency.types false in
def reg2 : ℝ𝕊 2 :=
  Pipeline.RegionSeg.ofTalk (pcfgs (F := F)) adm (pdats m) () defs₀ 𝒱₀ L lv 2 (P2 m).osem (semFacts2 m)
    ∅ (Pipeline.ucRefs τ sig \ a2) (Finset.empty_subset _) kit2 rfl (fun c => (obl2 m c).loose)
    (fun _ => 0) (P2 m).due (owed2_zero m) (owed2_last m) (fun _ => rfl) (fun c => (dat2 m c).share_full fun _ => rfl)
    (W2 m) (W3 m) (fun c b hb => rest2 m c b (Finset.mem_sdiff.mp hb).1)
    (Tk (P2 m) E2) (fun c => semVal ((P2 m).barCell c) 0) (Xk (P2 m) E2) (fun c => semVal ((P2 m).barCell c) 0)
    (opens (P2 m) E2)
    (fun c => (Entails.of_eq (Φ2_zero m c).symm))
    (fun c => (Entails.of_eq (Φ2_last m c)))
    (fun c => by iintro H; imodintro; iexact H)
    (fun _ => 0)
    ⟨fun c _ _ => mem_L c _, fun c w s => (stage_lv2 w s).le, fun c t g i h => owed2_pos m h⟩
    (fun c => semVal ((P0 m).barCell c) 0)
    (fun _ _ => rfl) (arrIn2 m)

/-! ## Entering and leaving -/

theorem reg0_pre (c : Dev nD) : T0 m c ⊢ (reg0 m).pre c := by
  show _ ⊢ iprop(StableHlo.held (c.tc : Thread nD τ) a0 (W0 m c) ∗ (∃ r, prngReg c r)
    ∗ (StableHlo.held (c.tc : Thread nD τ) (Pipeline.ucRefs τ sig \ a0) (W0 m c) ∗ later m c) ∗ Tk (P0 m) E0 c
    ∗ ∃ Wd, owes (c : Thread nD τ) (D2 m c + (P0 m).due c) Wd)
  unfold T0 sooner Tk
  rw [StableHlo.held_sub_split (c.tc : Thread nD τ) a0_sub (W0 m c)]
  iintro ⟨⟨Ha, Hr⟩, Hp, Hb, Hl, HO⟩
  isplitl [Ha]; · iexact Ha
  isplitl [Hp]; · iexact Hp
  isplitl [Hr Hl]
  · isplitl [Hr] <;> iassumption
  isplitl [Hb]; · iexact Hb
  iexact HO
theorem reg0_post (c : Dev nD) : (reg0 m).post c ⊢ T1 m c := by
  show iprop(StableHlo.held (c.tc : Thread nD τ) a0 (W1 m c) ∗ (∃ r, prngReg c r)
    ∗ (StableHlo.held (c.tc : Thread nD τ) (Pipeline.ucRefs τ sig \ a0) (W1 m c) ∗ later m c) ∗ semVal ((P0 m).barCell c) 0
    ∗ ∃ Wd, owes (c : Thread nD τ) (D2 m c) Wd) ⊢ _
  unfold T1
  rw [StableHlo.held_sub_split (c.tc : Thread nD τ) a0_sub (W1 m c)]
  iintro ⟨Ha, Hp, ⟨Hr, Hl⟩, Hb, HO⟩
  isplitl [Ha Hr]
  · isplitl [Ha] <;> iassumption
  isplitl [Hp]; · iexact Hp
  isplitl [Hb]; · iexact Hb
  isplitl [Hl]; · iexact Hl
  iexact HO
theorem reg1_pre (c : Dev nD) : T1 m c ⊢ (reg1 m).pre c := by
  show _ ⊢ iprop(StableHlo.held (c.tc : Thread nD τ) a1 (W1 m c) ∗ (∃ r, prngReg c r)
    ∗ (StableHlo.held (c : Thread nD τ) (Pipeline.ucRefs τ sig \ a1) (W1 m c) ∗ semVal ((P0 m).barCell c) 0 ∗ later m c)
    ∗ ∃ Wd, owes (c : Thread nD τ) (D2 m c) Wd)
  unfold T1
  rw [StableHlo.held_sub_split (c.tc : Thread nD τ) a1_sub (W1 m c)]
  iintro ⟨⟨Ha, Hr⟩, Hp, Hb, Hl, HO⟩
  isplitl [Ha]; · iexact Ha
  isplitl [Hp]; · iexact Hp
  isplitl [Hr Hb Hl]
  · isplitl [Hr]; · iexact Hr
    isplitl [Hb] <;> iassumption
  iexact HO
theorem reg1_post (c : Dev nD) : (reg1 m).post c ⊢ T2 m c := by
  show iprop(StableHlo.held (c.tc : Thread nD τ) a1 (W2 m c) ∗ (∃ r, prngReg c r)
    ∗ (StableHlo.held (c : Thread nD τ) (Pipeline.ucRefs τ sig \ a1) (W1 m c) ∗ semVal ((P0 m).barCell c) 0 ∗ later m c)
    ∗ ∃ Wd, owes (c : Thread nD τ) (D2 m c) Wd) ⊢ _
  unfold T2
  rw [StableHlo.held_sub_split (c.tc : Thread nD τ) a1_sub (W2 m c), StableHlo.held_congr (c.tc : Thread nD τ) (rest1 m c)]
  iintro ⟨Ha, Hp, ⟨Hr, Hb, Hl⟩, HO⟩
  isplitl [Ha Hr]
  · isplitl [Ha] <;> iassumption
  isplitl [Hp]; · iexact Hp
  isplitl [Hb]; · iexact Hb
  isplitl [Hl]; · iexact Hl
  iexact HO
theorem reg2_pre (c : Dev nD) : T2 m c ⊢ (reg2 m).pre c := by
  show _ ⊢ iprop(StableHlo.held (c.tc : Thread nD τ) a2 (W2 m c) ∗ (∃ r, prngReg c r)
    ∗ (StableHlo.held (c.tc : Thread nD τ) (Pipeline.ucRefs τ sig \ a2) (W2 m c) ∗ semVal ((P0 m).barCell c) 0) ∗ Tk (P2 m) E2 c
    ∗ ∃ Wd, owes (c : Thread nD τ) (0 + (P2 m).due c) Wd)
  unfold T2 later Tk
  rw [StableHlo.held_sub_split (c.tc : Thread nD τ) a2_sub (W2 m c), zero_add]
  iintro ⟨⟨Ha, Hr⟩, Hp, Hb, Hl, HO⟩
  isplitl [Ha]; · iexact Ha
  isplitl [Hp]; · iexact Hp
  isplitl [Hr Hb]
  · isplitl [Hr] <;> iassumption
  isplitl [Hl]; · iexact Hl
  iexact HO
theorem reg2_post (c : Dev nD) : (reg2 m).post c ⊢ iprop(T3 m c ∗ ∃ Wd, owes (c : Thread nD τ) (0 : CellTallies nD τ sig Unit) Wd) := by
  show iprop(StableHlo.held (c.tc : Thread nD τ) a2 (W3 m c) ∗ (∃ r, prngReg c r)
    ∗ (StableHlo.held (c.tc : Thread nD τ) (Pipeline.ucRefs τ sig \ a2) (W3 m c) ∗ semVal ((P0 m).barCell c) 0) ∗ semVal ((P2 m).barCell c) 0
    ∗ ∃ Wd, owes (c : Thread nD τ) (0 : CellTallies nD τ sig Unit) Wd) ⊢ _
  unfold T3
  rw [StableHlo.held_sub_split (c.tc : Thread nD τ) a2_sub (W3 m c)]
  iintro ⟨Ha, -, ⟨Hr, Hb⟩, Hb2, HO⟩
  isplitr [HO]
  · isplitl [Ha Hr]
    · isplitl [Ha] <;> iassumption
    isplitl [Hb] <;> iassumption
  iexact HO

end Cert.KernelIdeal

end
-- ==== Proof.Run.lean ====
/-
  The launch, and the whole run: the program ends, its arguments as they were, its result as computed and every counter at zero.
-/
module

public import proofs.«01_k».proof.Proof.Segs
public import Idealize.ShloMosaic.Lib.Quiescent

@[expose] public section

set_option maxRecDepth 16384

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen
open Cert.Ring (pr pl rev Proto Role)

variable {F : FTy → Type} [FloatOps F]

local notation "𝕄" => MT nD τ sig Unit (Elt F) ℕ UU ℕ

variable (m : (ℓ : Loc nD τ sig) → Buf (Elt F) ℓ)
variable (ρ : Dev nD → PrngReg)

theorem apart {A B : Dev nD → sProp 𝕄} : (bigSep Finset.univ fun c => iprop(A c ∗ B c)) ⊢ iprop(bigSep Finset.univ A ∗ bigSep Finset.univ B) :=
  Entails.of_eq (bigSep_sep _ _ _)
theorem together {A B : Dev nD → sProp 𝕄} : iprop(bigSep Finset.univ A ∗ bigSep Finset.univ B) ⊢ bigSep Finset.univ fun c => iprop(A c ∗ B c) :=
  Entails.of_eq (bigSep_sep _ _ _).symm

/-- What a device owes at launch: both exchanges. -/
def owing0 (c : Dev nD) : CellTallies nD τ sig Unit := (P2 m).due c + (P0 m).due c

/-- The exchanges' launch elements, kept by device 0 until they are dealt. -/
def G (c : Dev nD) : sProp 𝕄 := if c = 0 then BI.own (EX ((P0 m).fuel, (P2 m).fuel)) else BI.emp

theorem G_all : bigSep Finset.univ (G m) ⊢ (BI.own (EX ((P0 m).fuel, (P2 m).fuel)) : sProp 𝕄) :=
  (bigSep_elim (Finset.mem_univ (0 : Dev nD))).trans (Entails.of_eq (show G m 0 = _ from if_pos rfl))

theorem G_make : (BI.own (EX ((P0 m).fuel, (P2 m).fuel)) : sProp 𝕄) ⊢ bigSep Finset.univ (G m) := by
  have e : (bigSep (Finset.univ.erase (0 : Dev nD)) (G m) : sProp 𝕄) = BI.emp := by
    rw [bigSep_congr (s := Finset.univ.erase (0 : Dev nD)) (Ψ := fun _ => (BI.emp : sProp 𝕄))
      fun c hc => by unfold G; rw [if_neg (Finset.ne_of_mem_erase hc)], BI.bigSep_emp_const]
  rw [bigSep_univ_at _ (0 : Dev nD), e, show G m 0 = (BI.own (EX ((P0 m).fuel, (P2 m).fuel)) : sProp 𝕄) from if_pos rfl]
  iintro H
  isplitl [H]; · iexact H
  iempintro

/-- The launch element. -/
def u₀ : UU :=
  (initOf (Pipeline.cells (Pipeline.pin (pcfgs (F := F)) adm) cellOf_inj) (Pipeline.launchToks (Pipeline.pin (pcfgs (F := F)) adm) cellOf_inj),
    ((P0 m).fuel, (P2 m).fuel))

theorem sems0 (c : Dev nD) : (unscopedSems0 c : sProp 𝕄) ⊢ iprop(semVal ((P0 m).barCell c) 0 ∗ semVal ((P2 m).barCell c) 0) := by
  unfold unscopedSems0
  rw [show (Finset.univ.filter fun sm : SemLoc sig => ¬ sm.isScoped .tc) = {.reg ex0.bar, .reg ex2.bar} from by decide,
    bigSep_insert (by decide), bigSep_singleton]
  exact .rfl

/-- What of a core's launch holdings is no counter and no ghost state. -/
def bundle (c : Dev nD) : sProp 𝕄 :=
  iprop(StableHlo.held (c : Thread nD τ) (Pipeline.ucRefs τ sig) (W0 m c) ∗ Pipeline.launchCred (P0 m).due c ∗ Pipeline.launchCred (P2 m).due c
    ∗ owes (c : Thread nD τ) (owing0 m c) ∅ ∗ ∃ r, prngReg c r)

theorem core0 (c : Dev nD) : iprop(unscopedBufs c (fun b => m ((c : Thread nD τ).loc b)) ∗ unscopedSems0 c
      ∗ owes (c : Thread nD τ) (owing0 m c) ∅ ∗ Pipeline.launchCred (owing0 m) c ∗ prngReg c (ρ c) ∗ G m c)
    ⊢ (iprop(bundle m c ∗ (semVal ((P0 m).barCell c) 0 ∗ (semVal ((P2 m).barCell c) 0 ∗ G m c))) : sProp 𝕄) := by
  rw [show unscopedBufs c (fun b => m ((c : Thread nD τ).loc b)) = StableHlo.held (c : Thread nD τ) (Pipeline.ucRefs τ sig) (W0 m c)
    from Pipeline.unscopedBufs_held c (W0 m c)]
  rw [show (Pipeline.launchCred (owing0 m) c : sProp 𝕄) = _ from Pipeline.launchCred_add (P2 m).due (P0 m).due c]
  unfold bundle
  iintro ⟨Hh, Hs, HO, ⟨H2, H0⟩, Hp, HG⟩
  ihave Hs := (sems0 m c) $$ Hs
  icases Hs with ⟨Hb0, Hb2⟩
  isplitl [Hh HO H2 H0 Hp]
  · isplitl [Hh]; · iexact Hh
    isplitl [H0]; · iexact H0
    isplitl [H2]; · iexact H2
    isplitl [HO]; · iexact HO
    iexists (ρ c); iexact Hp
  isplitl [Hb0]; · iexact Hb0
  isplitl [Hb2] <;> iassumption

theorem T0_intro (K0 K2 : GSem nD τ sig → ℕ) (c : Dev nD) :
    iprop(bundle m c ∗ ((P0 m).dealt E0 K0 c ∗ (P2 m).dealt E2 K2 c)) ⊢ (T0 m c : sProp 𝕄) := by
  unfold bundle T0 sooner later
  iintro ⟨⟨Hh, H0, H2, HO, Hp⟩, Hd0, Hd2⟩
  isplitl [Hh]; · iexact Hh
  isplitl [Hp]; · iexact Hp
  isplitl [H0 Hd0]
  · iexists K0
    iapply ((P0 m).dealt_before E0 K0 c)
    isplitl [Hd0] <;> iassumption
  isplitl [H2 Hd2]
  · iexists K2
    iapply ((P2 m).dealt_before E2 K2 c)
    isplitl [Hd2] <;> iassumption
  iexists ∅; iexact HO

theorem init :
    iprop((bigSep Finset.univ fun c : Dev nD => iprop(unscopedBufs c (fun b => m ((c : Thread nD τ).loc b)) ∗ unscopedSems0 c
          ∗ owes (c : Thread nD τ) (owing0 m c) ∅ ∗ Pipeline.launchCred (owing0 m) c ∗ prngReg c (ρ c) ∗ G m c)) ∗ levAts L lv)
      ⊢ (|={Set.univ}=> bigSep Finset.univ (T0 m) : sProp 𝕄) := by
  have h1 : (bigSep Finset.univ fun c : Dev nD => iprop(unscopedBufs c (fun b => m ((c : Thread nD τ).loc b)) ∗ unscopedSems0 c
        ∗ owes (c : Thread nD τ) (owing0 m c) ∅ ∗ Pipeline.launchCred (owing0 m) c ∗ prngReg c (ρ c) ∗ G m c))
      ⊢ (bigSep Finset.univ fun c : Dev nD => iprop(bundle m c ∗ (semVal ((P0 m).barCell c) 0 ∗ (semVal ((P2 m).barCell c) 0 ∗ G m c))) : sProp 𝕄) :=
    bigSep_mono fun c _ => core0 m ρ c
  have hX : (BI.own (EX ((P0 m).fuel, (P2 m).fuel)) : sProp 𝕄) ⊢ iprop(BI.own (E0 (P0 m).fuel) ∗ BI.own (E2 (P2 m).fuel)) :=
    own_pair_emb EX _ _
  iintro ⟨H, -⟩
  ihave H := h1 $$ H
  ihave H := apart $$ H; icases H with ⟨HB, H⟩
  ihave H := apart $$ H; icases H with ⟨Hv0, H⟩
  ihave H := apart $$ H; icases H with ⟨Hv2, HG⟩
  ihave HG := (G_all m) $$ HG
  ihave HG := hX $$ HG
  icases HG with ⟨Hf0, Hf2⟩
  imod ((P0 m).fund E0) $$ [Hv0 Hf0] with ⟨%K0, Hd0⟩
  · isplitl [Hv0] <;> iassumption
  imod ((P2 m).fund E2) $$ [Hv2 Hf2] with ⟨%K2, Hd2⟩
  · isplitl [Hv2] <;> iassumption
  imodintro
  have h2 : (bigSep Finset.univ fun c : Dev nD => iprop(bundle m c ∗ ((P0 m).dealt E0 K0 c ∗ (P2 m).dealt E2 K2 c)))
      ⊢ (bigSep Finset.univ (T0 m) : sProp 𝕄) := bigSep_mono fun c _ => T0_intro m K0 K2 c
  iapply h2
  iapply together
  isplitl [HB]; · iexact HB
  iapply together
  isplitl [Hd0] <;> iassumption

theorem unscoped_eq : ∀ sm : SemLoc sig, sm.isScoped .tc = false → sm = .reg ex0.bar ∨ sm = .reg ex2.bar := by decide

theorem W3_arg0 (c : Dev nD) : W3 m c (Proc.devRef .tc main_arg0) = m ((c : Thread nD τ).loc main_arg0) :=
  (W3_of m c main_arg0 (by decide)).trans ((W2_of m c main_arg0 (by decide)).trans (W1_of m c main_arg0 (by decide)))
theorem W3_arg1 (c : Dev nD) : W3 m c (Proc.devRef .tc main_arg1) = m ((c : Thread nD τ).loc main_arg1) :=
  (W3_of m c main_arg1 (by decide)).trans ((W2_of m c main_arg1 (by decide)).trans (W1_of m c main_arg1 (by decide)))

theorem mem_uc (r : Ref sig .tc) (h : ¬ (Proc.devRef (τ := τ) .tc r).isScoped) : (Proc.devRef .tc r : DevRef τ sig) ∈ Pipeline.ucRefs τ sig :=
  Finset.mem_filter.mpr ⟨StableHlo.devRef_mem_tcRefs r, h⟩

set_option backward.isDefEq.respectTransparency.types false in
/-- Every fair run of the program ends: the arguments unchanged, each device's result rows as computed, every counter at zero. -/
theorem run_main : θ_run defs (onTc (τ := τ) (main (F := F))) ⟨m, fun _ => 0, ρ⟩
    (fun r => (∀ c : Dev nD, r.2.mem ((c : Thread nD τ).loc main_v3) = G3 m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main
    [.region (reg0 m), .region (reg1 m), .region (reg2 m)]
    (fun c Q => by rw [main_segs adm (pdats m) () 𝒱₀ L lv (reg0 m) (reg1 m) (reg2 m) c])
    (by simp only [Pipeline.Seg.pipes_region, Pipeline.Seg.pipes_nil]; decide)
    (O₀ := owing0 m) (hL := L_of_ne) (G := G m) (u₀ := u₀ m)
    (hu₀ := by
      unfold u₀
      iintro Hu
      ihave H := (ownU_pair _ _) $$ Hu
      icases H with ⟨HP, HX⟩
      imodintro
      isplitl [HP]; · iexact HP
      iapply (G_make m); iexact HX)
    (T₀ := T0 m) (Tₙ := T3 m)
    (hch := ⟨fun c => reg0_pre m c, fun c => (reg0_post m c).trans (reg1_pre m c), fun c => (reg1_post m c).trans (reg2_pre m c),
      fun c => reg2_post m c⟩)
    (hinit := init m ρ)
    (QY := fun c s => (∀ b ∈ Pipeline.ucRefs τ sig, s.mem (c, b) = W3 m c b) ∧ s.sem ((P0 m).barCell c) = 0 ∧ s.sem ((P2 m).barCell c) = 0)
    (hfin := fun c s' => by
      unfold T3 StableHlo.held
      iintro ⟨⟨Hh, Hb0, Hb2⟩, HSI⟩
      icombine HSI Hb0 gives %hb0
      icombine HSI Hb2 gives %hb2
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro
        exact ⟨h, by simpa using hb0, by simpa using hb2⟩
      iexact HSI)
    (hQ := fun s h hs => ⟨fun c => ⟨((h c).1 _ (mem_uc main_v3 (by decide))).trans (W3_v3 m c),
        ((h c).1 _ (mem_uc main_arg0 (by decide))).trans (W3_arg0 m c), ((h c).1 _ (mem_uc main_arg1 (by decide))).trans (W3_arg1 m c)⟩,
      sem_eq_zero hs fun c sm hsm => by
        rcases unscoped_eq sm hsm with rfl | rfl
        · exact (h c).2.1
        · exact (h c).2.2⟩)

end Cert.KernelIdeal

end
-- ==== Proof.Frames.lean ====
/-
  The frames: every program runs, leaves its arguments as they were, and ends with every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Frame

@[expose] public section

set_option maxRecDepth 100000
set_option maxHeartbeats 2000000

noncomputable section

namespace Cert.Proof

open Idealize.ShloMosaic Idealize.SL.Sem

/-- The kernel bodies the two programs run are the same. -/
theorem bodies_eq {F : FTy → Type} [FloatOps F] :
    (Cert.Kernel.defs₀ : Defs Cert.Kernel.nD Cert.Kernel.τ Cert.Kernel.sig (Elt F) Cert.Kernel.Λ₀) = Cert.KernelIdeal.defs₀ := by
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl
  | 1, (t, s) => rfl
  | 2, (t, s) => rfl
  | ⟨_ + 3, h⟩, _ => exact absurd h (Nat.not_lt.2 (Nat.le_add_left _ _))

/-- So are the programs they are called from. -/
theorem defs_eq {F : FTy → Type} [FloatOps F] :
    (Cert.Kernel.defs (F := F)) = Cert.KernelIdeal.defs (F := F) :=
  congrArg (Pipeline.defs (Cert.Kernel.pcfgs (F := F))) bodies_eq

theorem main_eq {F : FTy → Type} [FloatOps F] :
    (Cert.Kernel.main (F := F)) = Cert.KernelIdeal.main (F := F) := rfl

theorem frame_kernelIdeal : Cert.quiescent_KernelIdeal := fun m g _ =>
  (θ_run _ _ _).mono (fun _ h => ⟨fun c => ⟨(h.1 c).2.1, (h.1 c).2.2⟩, h.2⟩) (Cert.KernelIdeal.run_main m g)

theorem frame_kernel : Cert.quiescent_Kernel := fun m g _ => by
  rw [defs_eq, main_eq]
  exact (θ_run _ _ _).mono (fun _ h => ⟨fun c => ⟨(h.1 c).2.1, (h.1 c).2.2⟩, h.2⟩)
    (Cert.KernelIdeal.run_main (F := Bits) m g)

theorem frame_reference : Cert.quiescent_ReferenceIdeal := fun m g _ => Cert.ReferenceIdeal.Gen.frame m g

end Cert.Proof

end
-- ==== Proof.Math.lean ====
/-
  The quantiser on one element: a scale bounded below by a tiny constant and clipped from above only, against a plain scale clipped on both sides.
-/
module

public import Idealize.ShloMosaic.PureOps.Ideal
public import Idealize.ShloMosaic.PureOps.Ideal.Laws

@[expose] public section

noncomputable section

namespace Cert.Math

open Idealize.ShloMosaic

/-- The largest float8 number, as both programs write it. -/
theorem big : Ideal.ofBits .f32 0x43E00000#32 = ((448 : ℝ) : EReal) := by
  simp [Ideal.ofBits, Ideal.ieee, -EReal.coe_mul]; norm_num

theorem negBig : Ideal.ofBits .f32 0xC3E00000#32 = ((-448 : ℝ) : EReal) := by
  simp [Ideal.ofBits, Ideal.ieee, -EReal.coe_mul]; norm_num

theorem bottom : Ideal.ofBits .f32 0xFF800000#32 = ⊥ := by simp [Ideal.ofBits, Ideal.ieee]

/-- The tiny constant is a positive real. -/
theorem tiny : ∃ r : ℝ, 0 < r ∧ Ideal.ofBits .f32 0x0DA24260#32 = (r : EReal) := by
  refine ⟨_, ?_, by simp [Ideal.ofBits, Ideal.ieee, -EReal.coe_mul]; rfl⟩
  positivity

/-- A quotient of numbers that are not negative is not negative, where the divisor is positive. -/
theorem div_nonneg' {y s : EReal} (hy : 0 ≤ y) (hs : 0 < s) : 0 ≤ Ideal.div y s := by
  unfold Ideal.div
  rw [if_neg hs.ne']
  exact mul_nonneg hy (EReal.inv_nonneg_of_nonneg hs.le)

/-- Quantised and scaled back, an element comes out the same from both. -/
theorem requant {y a : EReal} (hy : 0 ≤ y) (hya : y ≤ a) {r : ℝ} (hr : 0 < r) :
    min (Ideal.div y (Ideal.div (max a r) ((448 : ℝ) : EReal))) ((448 : ℝ) : EReal) * Ideal.div (max a r) ((448 : ℝ) : EReal)
      = min ((448 : ℝ) : EReal) (max ((-448 : ℝ) : EReal) (Ideal.div y (Ideal.div a ((448 : ℝ) : EReal)))) * Ideal.div a ((448 : ℝ) : EReal) := by
  have h448 : (448 : ℝ) ≠ 0 := by norm_num
  by_cases h : (r : EReal) ≤ a
  · have hs : 0 < Ideal.div a ((448 : ℝ) : EReal) := by
      rw [Ideal.div_coe h448]
      exact EReal.mul_pos (lt_of_lt_of_le (by exact_mod_cast hr) h) (by exact_mod_cast (by norm_num : (0 : ℝ) < 1 / 448))
    rw [max_eq_left h, max_eq_right (le_trans (by exact_mod_cast (by norm_num : (-448 : ℝ) ≤ 0)) (div_nonneg' hy hs)), min_comm]
  · rw [not_le] at h
    rw [max_eq_right h.le]
    have ha : 0 ≤ a := hy.trans hya
    lift a to ℝ using ⟨ne_top_of_lt h, ne_bot_of_le_ne_bot (by simp) ha⟩
    lift y to ℝ using ⟨ne_top_of_le_ne_top (by simp) hya, ne_bot_of_le_ne_bot (by simp) hy⟩
    have hy' : 0 ≤ y := by exact_mod_cast hy
    have hya' : y ≤ a := by exact_mod_cast hya
    have har : a < r := by exact_mod_cast h
    have hrs : r * (1 / 448) ≠ 0 := by positivity
    rw [Ideal.div_coe h448, Ideal.div_coe h448]
    simp only [← EReal.coe_mul]
    rw [Ideal.div_coe hrs]
    rcases hy'.lt_or_eq with h0 | h0
    · have has : a * (1 / 448) ≠ 0 := by have : 0 < a := h0.trans_le hya'; positivity
      have ha0 : 0 < a := h0.trans_le hya'
      rw [Ideal.div_coe has]
      simp only [← EReal.coe_mul]
      have e1 : y * (1 / (r * (1 / 448))) ≤ 448 := by
        rw [mul_one_div, div_le_iff₀ (by positivity)]; linarith
      have e2 : y * (1 / (a * (1 / 448))) ≤ 448 := by
        rw [mul_one_div, div_le_iff₀ (by positivity)]; linarith
      have e3 : -448 ≤ y * (1 / (a * (1 / 448))) := le_trans (by norm_num) (by positivity : (0 : ℝ) ≤ y * (1 / (a * (1 / 448))))
      rw [min_eq_left (by exact_mod_cast e1), max_eq_right (by exact_mod_cast e3), min_eq_right (by exact_mod_cast e2)]
      simp only [← EReal.coe_mul]
      congr 1
      field_simp
    · subst h0
      by_cases ha0 : a = 0
      · subst ha0; simp [Ideal.div]
      · have has : a * (1 / 448) ≠ 0 := by positivity
        rw [Ideal.div_coe has]
        simp

end Cert.Math

end
-- ==== Proof.KernelValue.lean ====
/-
  What the kernel computes, over the extended reals: each call's result read at an index.
-/
module

public import proofs.«01_k».proof.Proof.Setup
public import proofs.«01_k».proof.Proof.Math
public import Idealize.ShloMosaic.Lib.Pointwise

@[expose] public section

set_option maxRecDepth 16384

noncomputable section

namespace Cert.KernelIdeal

open Idealize.ShloMosaic
open Idealize.ShloMosaic.TcCoe
open Cert.KernelIdeal.Gen

/-- A maximum taken over every index, from the bottom, is the supremum. -/
theorem fold_sup {ι : Type} [Fintype ι] (p : ι → Prop) [DecidablePred p] (hp : ∀ i, p i) (v : ι → EReal) :
    (Finset.univ.filter p).fold (FloatOps.maximumf (F := Ideal) (φ := .f32)) (⊥ : EReal) v = ⨆ i, v i := by
  rw [Finset.filter_true_of_mem fun i _ => hp i, ← Finset.sup_univ_eq_iSup]
  rfl

/-- A maximum over all axes but unit ones is the supremum over every index. -/
theorem max_all {s t : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ) (j : t.Idx) :
    multiReduction .maximumf axes t src 0xFF800000#32 h hφ hacc j = ⨆ i, src i := by
  rw [multiReduction_maximumf_eq_fold]
  rw [show (FloatOps.ofBits (F := Ideal) .f32 0xFF800000#32 : EReal) = ⊥ from Math.bottom]
  exact fold_sup _ (fun i => funext fun b => Fin.ext (by
    have := (h.drop i b).isLt; have := (j b).isLt; have := ht b; omega)) src

/-- A reshaped array has the same supremum. -/
theorem sup_cast {s t : Shape} (v : FVec Ideal s .f32) (h : s.ShapeCasts t) : (⨆ i, (shapeCast t v h i : EReal)) = ⨆ i, (v i : EReal) := by
  unfold shapeCast
  exact Equiv.iSup_comp (g := fun i => (v i : EReal)) (Shape.reshapeEquiv h)

/-- One number spread over a slot. -/
theorem spread (z : FVec Ideal S1 .f32) (a : EReal) (h : ∀ k, @Eq EReal (z k) a) (j : S1x8x128.Idx) :
    @Eq EReal (shapeCast S1x8x128 (broadcast S8x128 (extractAt ![0, 0, 0] (shapeCast S1x1x1 z shapeCasts_S1_S1x1x1) inpos_S1x1x1_p0_0_0)) shapeCasts_S8x128_S1x8x128 j) a := h _

/-- The scale from one number. -/
theorem scaled (z : FVec Ideal S1 .f32) (a : EReal) (h : ∀ k, @Eq EReal (z k) a) :
    @Eq EReal (Scalar.divf (Scalar.maximumf (extractAt ![0, 0, 0, 0] (shapeCast S1x1x1x1 z shapeCasts_S1_S1x1x1x1) inpos_S1x1x1x1_p0_0_0_0)
      (Scalar.ofBits .f32 0x0DA24260#32)) (Scalar.ofBits .f32 0x43E00000#32))
      (Ideal.div (max a (Ideal.ofBits .f32 0x0DA24260#32)) (Ideal.ofBits .f32 0x43E00000#32)) :=
  congrArg (fun y => Ideal.div (max y (Ideal.ofBits .f32 0x0DA24260#32)) (Ideal.ofBits .f32 0x43E00000#32)) (h _)

/-- What a device puts in its slot is the largest element of its block. -/
theorem amax_at (v : S128x8192.Idx → Elt Ideal .f32) (j : S1x8x128.Idx) : (k2_pay2 v j : EReal) = ⨆ i, (v i : EReal) := by
  have h : ∀ k, @Eq EReal (multiReduction (F := Ideal) (φ := .f32) .maximumf [1, 2] S1 (shapeCast S1x128x8192 (shapeCast S128x8192 v shapeCasts_S128x8192_S128x8192) shapeCasts_S128x8192_S1x128x8192)
      0xFF800000#32 reduces_S1x128x8192_S1 (.inl rfl) rfl k) (⨆ i, (v i : EReal)) := fun k =>
    (max_all _ reduces_S1x128x8192_S1 (by decide) (.inl rfl) rfl k).trans ((sup_cast _ _).trans (sup_cast _ _))
  unfold k2_pay2
  exact spread _ _ h j

/-- The scale from a buffer of maxima. -/
theorem scale_at (v : S32x8x128.Idx → Elt Ideal .f32) :
    (k2_pay3 v : EReal) = Ideal.div (max (⨆ i, (v i : EReal)) (Ideal.ofBits .f32 0x0DA24260#32)) (Ideal.ofBits .f32 0x43E00000#32) := by
  have h : ∀ k, @Eq EReal (multiReduction (F := Ideal) (φ := .f32) .maximumf [1, 2, 3] S1 (shapeCast S1x32x8x128 v shapeCasts_S32x8x128_S1x32x8x128)
      0xFF800000#32 reduces_S1x32x8x128_S1 (.inl rfl) rfl k) (⨆ i, (v i : EReal)) := fun k =>
    (max_all _ reduces_S1x32x8x128_S1 (by decide) (.inl rfl) rfl k).trans (sup_cast _ _)
  unfold k2_pay3
  exact scaled _ _ h

/-- The largest element of the buffer of maxima, on every device, is the largest of all devices' blocks. -/
theorem sup_maxima (Y : Dev nD → S128x8192.Idx → Elt Ideal .f32) (c : Dev nD) :
    (⨆ i, (maxima (fun d => k2_pay2 (Y d)) c i : EReal)) = ⨆ d, ⨆ i, (Y d i : EReal) := by
  apply le_antisymm
  · refine iSup_le fun i => ?_
    show (k2_pay2 (Y (whose c (i 0).val)) _ : EReal) ≤ _
    rw [amax_at]
    exact le_iSup (fun d => ⨆ i, (Y d i : EReal)) _
  · refine iSup_le fun d => ?_
    have hd : whose c ((c.val + 32 - d.val) % 32) = d := by
      apply Fin.ext
      have : c.val < 32 := c.isLt
      have : d.val < 32 := d.isLt
      show (c.val + (32 - (c.val + 32 - d.val) % 32)) % 32 = d.val
      omega
    rw [← amax_at (Y d) (ix3 0 0 0)]
    refine le_trans (le_of_eq ?_) (le_iSup (fun i => (maxima (fun d => k2_pay2 (Y d)) c i : EReal)) (ix3 ⟨(c.val + 32 - d.val) % 32, Nat.mod_lt _ (by decide)⟩ 0 0))
    show _ = (k2_pay2 (Y (whose c ((c.val + 32 - d.val) % 32))) _ : EReal)
    rw [hd, amax_at, amax_at]

/-- The scale every device divides by. -/
def scl (Y : Dev nD → S128x8192.Idx → Elt Ideal .f32) : EReal :=
  Ideal.div (max (⨆ d, ⨆ i, (Y d i : EReal)) (Ideal.ofBits .f32 0x0DA24260#32)) (Ideal.ofBits .f32 0x43E00000#32)

/-- A device's result, element by element. -/
theorem quant_at (Y : Dev nD → S128x8192.Idx → Elt Ideal .f32) (c : Dev nD) (i : S128x8192.Idx) :
    (quant Y c i : EReal) = min (Ideal.div (Y c i) (scl Y)) (Ideal.ofBits .f32 0x43E00000#32) * scl Y := by
  have h : (k2_pay3 (maxima (fun d => k2_pay2 (Y d)) c) : EReal) = scl Y := by rw [scale_at, sup_maxima]; rfl
  unfold quant k2_pay1 k2_pay4
  dsimp only
  generalize k2_pay3 (maxima (fun d => k2_pay2 (Y d)) c) = z at h ⊢
  subst h
  pointwise []

/-- An element of the tiled product. -/
theorem gemm_val (x : S128x4096.Idx → Elt Ideal .f32) (w : S4096x8192.Idx → Elt Ideal .f32) (r : Fin 128) (q : Fin 8192) :
    (gemm x w (ix2 r q) : EReal) = max (∑ k : Fin 4096, (x (ix2 r k) : EReal) * w (ix2 k q)) 0 := by
  have hq : 512 * (q.val / 512) + q.val % 512 = q.val := Nat.div_add_mod _ _
  show (k1_pay1 x (tile ⟨q.val / 512, _⟩ w) (ix2 r ⟨q.val % 512, _⟩) : EReal) = _
  pointwise [k1_pay1, tile]
  simp only [hq]

end Cert.KernelIdeal

end
-- ==== Proof.RefValue.lean ====
/-
  What the reference computes, over the extended reals: its result read at an index.
-/
module

public import proofs.«01_k».proof.Proof.Gen.ReferenceIdeal
public import proofs.«01_k».proof.Proof.Gen.ReferenceIdeal.Value
public import proofs.«01_k».proof.Proof.KernelValue
public import Idealize.ShloMosaic.Lib.StableHlo.Run
public import Idealize.ShloMosaic.Lib.Pipeline.ValueKit
public import Idealize.ShloMosaic.Lib.Pointwise

@[expose] public section

set_option maxRecDepth 16384

noncomputable section

namespace Cert.RefValue

open Idealize.ShloMosaic Idealize.ShloMosaic.TcCoe Idealize.SL.Sem
open Cert.ReferenceIdeal Cert.ReferenceIdeal.Gen
open Idealize.ShloMosaic.Pipeline (Dat)

variable (m : (ℓ : Loc nD τ sig) → Buf (Elt Ideal) ℓ)

/-- The two arguments. -/
abbrev x : FVec Ideal S4096x4096 .f32 := m ((0 : Dev nD).tc.loc main_arg0)
abbrev w : FVec Ideal S4096x8192 .f32 := m ((0 : Dev nD).tc.loc main_arg1)

/-- The product after relu. -/
def act (a : FVec Ideal S4096x4096 .f32) (b : FVec Ideal S4096x8192 .f32) : FVec Ideal S4096x8192 .f32 :=
  maximumf (Host.dotGeneral dot_S4096x4096_S4096x8192_S4096x8192_1_0_0_1_n_n none a b)
    (broadcastInDim S4096x8192 ![] bcast_S_S4096x8192 (constant S_ .f32 0x00000000#32))

/-- The scale. -/
def scale (y : FVec Ideal S4096x8192 .f32) : FVec Ideal S1x1 .f32 :=
  shapeCast S1x1 (Host.divf (Host.reduce FloatOps.maximumf (Host.absf y) (constant S_ .f32 0xFF800000#32) reducesTo_S4096x8192_S_d0_1 h_S_)
    (constant S_ .f32 0x43E00000#32)) shapeCasts_S_S1x1

theorem V_v2 : V m 0 main_v2 = act (x m) (w m) := by
  show StableHlo.after hostOps0 (fun b => m (0, b)) main_v2 = _
  after_results
  rfl

theorem V_v6 : V m 0 main_v6 = scale (act (x m) (w m)) := by
  show StableHlo.after hostOps0 (fun b => m (0, b)) main_v6 = _
  after_results
  rfl

/-- An element of the product after relu. -/
theorem act_at (a : FVec Ideal S4096x4096 .f32) (b : FVec Ideal S4096x8192 .f32) (p : Fin 4096) (q : Fin 8192) :
    (act a b (ix2 p q) : EReal) = max (∑ k : Fin 4096, (a (ix2 p k) : EReal) * b (ix2 k q)) 0 := by
  pointwise [act]

/-- No element of it is negative. -/
theorem act_nonneg (a : FVec Ideal S4096x4096 .f32) (b : FVec Ideal S4096x8192 .f32) (i : S4096x8192.Idx) : (0 : EReal) ≤ act a b i := by
  obtain ⟨p, q, rfl⟩ : ∃ p q, i = ix2 p q := ⟨i 0, i 1, ValueIdx.eq_ix2 i⟩
  rw [act_at]
  exact le_max_right _ _

/-- The largest absolute value of an array without negative elements is its largest element. -/
theorem top_at (y : FVec Ideal S4096x8192 .f32) (hy : ∀ i, (0 : EReal) ≤ y i) (j : S_.Idx) :
    @Eq EReal (Host.reduce (α := Elt Ideal .f32) (FloatOps.maximumf (F := Ideal) (φ := .f32)) (Host.absf y) (constant (F := Ideal) S_ .f32 0xFF800000#32) reducesTo_S4096x8192_S_d0_1 h_S_ j) (⨆ i, (y i : EReal)) := by
  have hb : (Host.absf y : S4096x8192.Idx → EReal) = y := funext fun i => by
    show max (y i : EReal) (-(y i : EReal)) = y i
    exact max_eq_left (le_trans (EReal.neg_le_zero.mpr (hy i)) (hy i))
  rw [Host.reduce_eq_fold]
  refine Eq.trans ?_ ((KernelIdeal.fold_sup (fun i => reducesTo_S4096x8192_S_d0_1.drop i = j) (fun i => funext fun b => b.elim0) _).trans
    (congrArg (fun v : S4096x8192.Idx → EReal => ⨆ i, v i) hb))
  rw [← Math.bottom]
  rfl

/-- The scale as a number. -/
theorem scale_at (y : FVec Ideal S4096x8192 .f32) (hy : ∀ i, (0 : EReal) ≤ y i) (j : S1x1.Idx) :
    (scale y j : EReal) = Ideal.div (⨆ i, (y i : EReal)) (Ideal.ofBits .f32 0x43E00000#32) :=
  congrArg (fun a => Ideal.div a (Ideal.ofBits .f32 0x43E00000#32)) (top_at y hy _)

/-- The reference's result. -/
def result (a : FVec Ideal S4096x4096 .f32) (b : FVec Ideal S4096x8192 .f32) : FVec Ideal S4096x8192 .f32 :=
  Value.E2 (F := Ideal) (act a b) (scale (act a b))

/-- The region reads the whole of its first array. -/
theorem block0 : View.ld (iblk m 0 0 t0_0) r0_0 = act (x m) (w m) := by
  rw [← V_v2]
  funext y
  show V m 0 main_v2 _ = V m 0 main_v2 y
  congr 1
  funext b
  fin_cases b
  · apply Fin.ext
    simp
    exact (by decide +kernel : win0_0.index t0_0 0 = 0)
  · apply Fin.ext
    simp
    exact (by decide +kernel : win0_0.index t0_0 1 = 0)

/-- It reads the whole of its second. -/
theorem block1 : View.ld (iblk m 0 1 t0_0) r0_1 = scale (act (x m) (w m)) := by
  rw [← V_v6]
  funext y
  show V m 0 main_v6 _ = V m 0 main_v6 y
  congr 1
  funext b
  fin_cases b <;> exact Subsingleton.elim (α := Fin 1) _ _

/-- What the region's body leaves, from the arrays it reads. -/
theorem out_of (A : Vec Ideal S4096x8192 .f32) (B : Vec Ideal S1x1 .f32) (P0 : FVec Ideal S4096x8192 .f32) (P1 : FVec Ideal S1x1 .f32)
    (h0 : View.ld A r0_0 = P0) (h1 : View.ld B r0_1 = P1) : out0_2 A B = Value.E2 (F := Ideal) P0 P1 := by
  subst h0 h1
  exact funext (Value.canon2_eq _ _)

/-- The result array after the run. -/
theorem arr2 : (dats m 0 0).arrAt 2 cfg0.N = result (x m) (w m) := by
  have h : out0_2 (iblk m 0 0 t0_0) (iblk m 0 1 t0_0) = result (x m) (w m) := out_of _ _ _ _ (block0 m) (block1 m)
  refine (dats m 0 0).arrAt_eq_of_after_last 2 t0_0 (by decide +kernel) _ fun j => ?_
  rw [after0_2, h]
  generalize result (x m) (w m) = R
  blk_simp

/-- The result, element by element. -/
theorem result_at (a : FVec Ideal S4096x4096 .f32) (b : FVec Ideal S4096x8192 .f32) (i : S4096x8192.Idx) :
    (result a b i : EReal) = min (Ideal.ofBits .f32 0x43E00000#32) (max (Ideal.ofBits .f32 0xC3E00000#32)
      (Ideal.div (act a b i) (Ideal.div (⨆ i, (act a b i : EReal)) (Ideal.ofBits .f32 0x43E00000#32))))
      * Ideal.div (⨆ i, (act a b i : EReal)) (Ideal.ofBits .f32 0x43E00000#32) := by
  rw [← scale_at _ (act_nonneg a b) (ix2 0 0)]
  have h : ∀ k, scale (act a b) k = scale (act a b) (ix2 0 0) := fun k => congrArg _ (funext fun b => by fin_cases b <;> exact Subsingleton.elim (α := Fin 1) _ _)
  have hi : Value.ix2_0 i = i := funext fun b => by fin_cases b <;> rfl
  show min _ (max _ (Ideal.div (act a b (Value.ix2_0 i)) (scale (act a b) (Value.ix2_1 i)))) * (scale (act a b) (Value.ix2_2 i) : EReal) = _
  rw [h, hi]
  rfl

end Cert.RefValue

end
-- ==== Proof.Algebraic.lean ====
/-
  The value claim: over the extended reals, every device's rows of the kernel's result are its rows of the reference's.
-/
module

public import proofs.«01_k».proof.Defs
public import proofs.«01_k».proof.Proof.Run
public import proofs.«01_k».proof.Proof.RefValue
public import Idealize.ShloMosaic.Lib.LayoutAt

@[expose] public section

set_option maxRecDepth 16384

noncomputable section

namespace Cert.Proof

open Idealize.ShloMosaic Idealize.ShloMosaic.TcCoe Idealize.SL.Sem
open Cert.KernelIdeal (gather gather_at gemm gemm_val quant quant_at scl)

variable (a : FVec Ideal ReferenceIdeal.S4096x4096 .f32) (b : FVec Ideal ReferenceIdeal.S4096x8192 .f32)

/-- The columns of the whole matrix a device holds. -/
abbrev columns (d : Dev KernelIdeal.nD) : KernelIdeal.S4096x128.Idx → Elt Ideal .f32 := Layout.block ⟨2, ![4096, 128]⟩ ⟨2, ![4096, 4096]⟩ 1 32 d a

/-- The row of a whole matrix that is a device's row `r`. -/
abbrev row (c : Dev KernelIdeal.nD) (r : Fin 128) : Fin 4096 :=
  ⟨128 * c.val + r.val, by have : c.val < 32 := c.isLt; have := r.isLt; omega⟩

/-- A device's rows of the product after relu. -/
abbrev slab (c : Dev KernelIdeal.nD) : KernelIdeal.S128x8192.Idx → Elt Ideal .f32 := gemm (gather (columns a) c) b

/-- What a device has gathered are its rows of the whole matrix. -/
theorem gathered (c : Dev KernelIdeal.nD) (r : Fin 128) (k : Fin 4096) : gather (columns a) c (ix2 r k) = a (ix2 (row c r) k) := by
  have hc : c.val < 32 := c.isLt
  have hk := k.isLt
  rw [gather_at (columns a) c ⟨k.val / 128, by show _ < 32; omega⟩ (ix2 r k) (ix2 (row c r) ⟨k.val % 128, Nat.mod_lt _ (by decide)⟩) rfl
    (Nat.div_add_mod _ _).symm]
  refine congrArg a (funext fun n => ?_)
  fin_cases n
  · exact Fin.ext rfl
  · exact Fin.ext (Nat.div_add_mod' k.val 128)

/-- A device's rows of the product are rows of the reference's product. -/
theorem slab_at (c : Dev KernelIdeal.nD) (r : Fin 128) (q : Fin 8192) :
    (slab a b c (ix2 r q) : EReal) = RefValue.act a b (ix2 (row c r) q) := by
  unfold slab
  rw [gemm_val, RefValue.act_at]
  simp only [gathered]

/-- The largest element over the devices is the largest of the whole product. -/
theorem top_eq : (⨆ d, ⨆ i, (slab a b d i : EReal)) = ⨆ i, (RefValue.act a b i : EReal) := by
  apply le_antisymm
  · refine iSup_le fun d => iSup_le fun i => ?_
    obtain ⟨r, q, rfl⟩ : ∃ r q, i = ix2 r q := ⟨i 0, i 1, ValueIdx.eq_ix2 i⟩
    rw [slab_at]
    exact le_iSup (fun i => (RefValue.act a b i : EReal)) _
  · refine iSup_le fun i => ?_
    obtain ⟨p, q, rfl⟩ : ∃ p q, i = ix2 p q := ⟨i 0, i 1, ValueIdx.eq_ix2 i⟩
    have hp := p.isLt
    have e : p = row ⟨p.val / 128, by show _ < 32; omega⟩ ⟨p.val % 128, Nat.mod_lt _ (by decide)⟩ := Fin.ext (Nat.div_add_mod _ _).symm
    rw [e, ← slab_at]
    exact le_trans (le_iSup (fun i => (slab a b _ i : EReal)) _) (le_iSup (fun d => ⨆ i, (slab a b d i : EReal)) _)

/-- A device's rows of the result, element by element. -/
theorem quant_eq (c : Dev KernelIdeal.nD) (r : Fin 128) (q : Fin 8192) :
    (quant (slab a b) c (ix2 r q) : EReal) = RefValue.result a b (ix2 (row c r) q) := by
  obtain ⟨e, he, h⟩ := Math.tiny
  rw [quant_at, RefValue.result_at, scl, top_eq, slab_at, Math.big, Math.negBig, h]
  exact Math.requant (RefValue.act_nonneg a b _) (le_iSup (fun i => (RefValue.act a b i : EReal)) _) he

/-- A device's rows of the result. -/
theorem quant_block (c : Dev KernelIdeal.nD) :
    quant (slab a b) c = Layout.block ⟨2, ![128, 8192]⟩ ⟨2, ![4096, 8192]⟩ 0 32 c (RefValue.result a b) := by
  funext i
  obtain ⟨r, q, rfl⟩ : ∃ r q, i = ix2 r q := ⟨i 0, i 1, ValueIdx.eq_ix2 i⟩
  refine (quant_eq a b c r q).trans ?_
  shard_ext

theorem algebraic : Cert.algebraic_KernelIdeal_ReferenceIdeal := by
  intro m g m' g' _ h
  refine ⟨RefValue.result (RefValue.x m') (RefValue.w m'), (θ_run _ _ _).mono (fun r hr c => ?_) (KernelIdeal.run_main m g),
    (θ_run _ _ _).mono (fun r hr => ⟨(hr 0).1.trans (RefValue.arr2 m'), (hr 0).2⟩) (ReferenceIdeal.Value.run_blocks m' g')⟩
  refine ⟨(hr.1 c).1.trans ?_, (hr.1 c).2⟩
  have hX : KernelIdeal.X m = columns (RefValue.x m') := funext fun d => (h d).1
  have hG : KernelIdeal.G2 m = slab (RefValue.x m') (RefValue.w m') := funext fun d => by
    show gemm (gather (KernelIdeal.X m) d) (KernelIdeal.Wt m d) = _
    rw [hX, show KernelIdeal.Wt m d = RefValue.w m' from (h d).2]
  show quant (KernelIdeal.G2 m) c = _
  rw [hG]
  exact quant_block _ _ c

end Cert.Proof

end
-- ==== Proof.lean ====
/-
  The certificate: the witnesses of the programs' stated facts, and the claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_kernelIdeal, frame_reference, trivial, algebraic⟩

end Cert.Proof

end
